-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_v63) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_v62) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S16896x4096 : Shape := ⟨2, ![16896, 4096]⟩
abbrev S1x4096 : Shape := ⟨2, ![1, 4096]⟩
abbrev S_ : Shape := ⟨0, ![]⟩

class Facts : Prop where
  bcast_S_S16896x4096 : S_.BroadcastsInDim S16896x4096 (![] : Fin 0 → Fin S16896x4096.rank)
  bcast_S_S1x4096 : S_.BroadcastsInDim S1x4096 (![] : Fin 0 → Fin S1x4096.rank)
  bcast_S1x4096_S16896x4096_0_1 : S1x4096.BroadcastsInDim S16896x4096 (![0, 1] : Fin 2 → Fin S16896x4096.rank)

variable [Facts]

def fn_part1 {F : FTy → Type} [FloatOps F] (main_arg5 : FVec F S16896x4096 .f32) (main_arg6 : FVec F S1x4096 .f32) (main_v18 : IVec S16896x4096 1) : IVec S16896x4096 1 :=
  let main_v19 : FVec F S16896x4096 .f32 := Host.absf main_arg5
  let main_cst_4 : FVec F S_ .f32 := constant S_ .f32 0x7F800000#32
  let main_v20 : FVec F S16896x4096 .f32 := broadcastInDim S16896x4096 ![] bcast_S_S16896x4096 main_cst_4
  let main_v21 : IVec S16896x4096 1 := cmpf .olt main_v19 main_v20
  let main_v22 : IVec S16896x4096 1 := andi main_v18 main_v21
  let main_v23 : FVec F S1x4096 .f32 := Host.absf main_arg6
  let main_cst_5 : FVec F S_ .f32 := constant S_ .f32 0x7F800000#32
  let main_v24 : FVec F S1x4096 .f32 := broadcastInDim S1x4096 ![] bcast_S_S1x4096 main_cst_5
  let main_v25 : IVec S1x4096 1 := cmpf .olt main_v23 main_v24
  let main_v26 : IVec S16896x4096 1 := broadcastInDim S16896x4096 ![0, 1] bcast_S1x4096_S16896x4096_0_1 main_v25
  let main_v27 : IVec S16896x4096 1 := andi main_v22 main_v26
  main_v27

def fn {F : FTy → Type} [FloatOps F] (main_arg0 : FVec F S16896x4096 .bf16) (main_arg1 : FVec F S16896x4096 .bf16) (main_arg2 : FVec F S16896x4096 .bf16) (main_arg3 : FVec F S16896x4096 .bf16) (main_arg4 : FVec F S16896x4096 .bf16) (main_arg5 : FVec F S16896x4096 .f32) (main_arg6 : FVec F S1x4096 .f32) : IVec S16896x4096 1 :=
  let main_v0 : FVec F S16896x4096 .bf16 := Host.absf main_arg0
  let main_cst : FVec F S_ .bf16 := constant S_ .bf16 0x7F80#16
  let main_v1 : FVec F S16896x4096 .bf16 := broadcastInDim S16896x4096 ![] bcast_S_S16896x4096 main_cst
  let main_v2 : IVec S16896x4096 1 := cmpf .olt main_v0 main_v1
  let main_v3 : FVec F S16896x4096 .bf16 := Host.absf main_arg1
  let main_cst_0 : FVec F S_ .bf16 := constant S_ .bf16 0x7F80#16
  let main_v4 : FVec F S16896x4096 .bf16 := broadcastInDim S16896x4096 ![] bcast_S_S16896x4096 main_cst_0
  let main_v5 : IVec S16896x4096 1 := cmpf .olt main_v3 main_v4
  let main_v6 : IVec S16896x4096 1 := andi main_v2 main_v5
  let main_v7 : FVec F S16896x4096 .bf16 := Host.absf main_arg2
  let main_cst_1 : FVec F S_ .bf16 := constant S_ .bf16 0x7F80#16
  let main_v8 : FVec F S16896x4096 .bf16 := broadcastInDim S16896x4096 ![] bcast_S_S16896x4096 main_cst_1
  let main_v9 : IVec S16896x4096 1 := cmpf .olt main_v7 main_v8
  let main_v10 : IVec S16896x4096 1 := andi main_v6 main_v9
  let main_v11 : FVec F S16896x4096 .bf16 := Host.absf main_arg3
  let main_cst_2 : FVec F S_ .bf16 := constant S_ .bf16 0x7F80#16
  let main_v12 : FVec F S16896x4096 .bf16 := broadcastInDim S16896x4096 ![] bcast_S_S16896x4096 main_cst_2
  let main_v13 : IVec S16896x4096 1 := cmpf .olt main_v11 main_v12
  let main_v14 : IVec S16896x4096 1 := andi main_v10 main_v13
  let main_v15 : FVec F S16896x4096 .bf16 := Host.absf main_arg4
  let main_cst_3 : FVec F S_ .bf16 := constant S_ .bf16 0x7F80#16
  let main_v16 : FVec F S16896x4096 .bf16 := broadcastInDim S16896x4096 ![] bcast_S_S16896x4096 main_cst_3
  let main_v17 : IVec S16896x4096 1 := cmpf .olt main_v15 main_v16
  let main_v18 : IVec S16896x4096 1 := andi main_v14 main_v17
  fn_part1 (F := F) main_arg5 main_arg6 main_v18
-- ==== Kernel.lean ====
abbrev S16896x4096 : Shape := ⟨2, ![16896, 4096]⟩
abbrev S1x4096 : Shape := ⟨2, ![1, 4096]⟩
abbrev S64x2048 : Shape := ⟨2, ![64, 2048]⟩
abbrev S1x2048 : Shape := ⟨2, ![1, 2048]⟩
abbrev S16x128x128 : Shape := ⟨3, ![16, 128, 128]⟩
abbrev S64x64 : Shape := ⟨2, ![64, 64]⟩
abbrev S64x128 : Shape := ⟨2, ![64, 128]⟩
abbrev S128x128 : Shape := ⟨2, ![128, 128]⟩
abbrev S1x128 : Shape := ⟨2, ![1, 128]⟩
abbrev S1x128x128 : Shape := ⟨3, ![1, 128, 128]⟩

abbrev nBuf : Space → Nat
  | .hbm => 8
  | .vmem => 17
  | .smem => 0
  | _ => 0

abbrev bufTy : (tb : Table) → Fin (tcTables nBuf tb) → BufTy
  | .hbm, ⟨0, _⟩ => ⟨S16896x4096, .bf16⟩
  | .hbm, ⟨1, _⟩ => ⟨S16896x4096, .bf16⟩
  | .hbm, ⟨2, _⟩ => ⟨S16896x4096, .bf16⟩
  | .hbm, ⟨3, _⟩ => ⟨S16896x4096, .bf16⟩
  | .hbm, ⟨4, _⟩ => ⟨S16896x4096, .bf16⟩
  | .hbm, ⟨5, _⟩ => ⟨S16896x4096, .f32⟩
  | .hbm, ⟨6, _⟩ => ⟨S1x4096, .f32⟩
  | .hbm, ⟨7, _⟩ => ⟨S16896x4096, .bf16⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .bf16⟩
  | .local _ .vmem, ⟨5, _⟩ => ⟨S64x2048, .bf16⟩
  | .local _ .vmem, ⟨6, _⟩ => ⟨S64x2048, .bf16⟩
  | .local _ .vmem, ⟨7, _⟩ => ⟨S64x2048, .bf16⟩
  | .local _ .vmem, ⟨8, _⟩ => ⟨S64x2048, .bf16⟩
  | .local _ .vmem, ⟨9, _⟩ => ⟨S64x2048, .bf16⟩
  | .local _ .vmem, ⟨10, _⟩ => ⟨S64x2048, .f32⟩
  | .local _ .vmem, ⟨11, _⟩ => ⟨S64x2048, .f32⟩
  | .local _ .vmem, ⟨12, _⟩ => ⟨S1x2048, .f32⟩
  | .local _ .vmem, ⟨13, _⟩ => ⟨S1x2048, .f32⟩
  | .local _ .vmem, ⟨14, _⟩ => ⟨S64x2048, .bf16⟩
  | .local _ .vmem, ⟨15, _⟩ => ⟨S64x2048, .bf16⟩
  | .local _ .vmem, ⟨16, _⟩ => ⟨S16x128x128, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 132], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c4_i32_0 : BitVec 32 := 4#32
  let v1 : BitVec 1 := Scalar.cmpi .slt arg2 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg2
  let c128_i32 : BitVec 32 := 128#32
  let v5 : BitVec 32 := Scalar.muli arg0 c128_i32
  let v6 : BitVec 32 := Scalar.addi v5 v0
  let v7 : BitVec 32 := Scalar.select v1 v4 v6
  let c0_i32 : BitVec 32 := 0#32
  ![v7.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c4_i32_0 : BitVec 32 := 4#32
  let v1 : BitVec 1 := Scalar.cmpi .slt arg2 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg2
  let c128_i32 : BitVec 32 := 128#32
  let v5 : BitVec 32 := Scalar.muli arg0 c128_i32
  let v6 : BitVec 32 := Scalar.addi v5 v0
  let v7 : BitVec 32 := Scalar.select v1 v4 v6
  let c0_i32 : BitVec 32 := 0#32
  ![v7.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c4_i32_0 : BitVec 32 := 4#32
  let v1 : BitVec 1 := Scalar.cmpi .slt arg2 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg2
  let c128_i32 : BitVec 32 := 128#32
  let v5 : BitVec 32 := Scalar.muli arg0 c128_i32
  let v6 : BitVec 32 := Scalar.addi v5 v0
  let v7 : BitVec 32 := Scalar.select v1 v4 v6
  let c0_i32 : BitVec 32 := 0#32
  ![v7.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c4_i32_0 : BitVec 32 := 4#32
  let v1 : BitVec 1 := Scalar.cmpi .slt arg2 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg2
  let c128_i32 : BitVec 32 := 128#32
  let v5 : BitVec 32 := Scalar.muli arg0 c128_i32
  let v6 : BitVec 32 := Scalar.addi v5 v0
  let v7 : BitVec 32 := Scalar.select v1 v4 v6
  let c0_i32 : BitVec 32 := 0#32
  ![v7.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c4_i32_0 : BitVec 32 := 4#32
  let v1 : BitVec 1 := Scalar.cmpi .slt arg2 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg2
  let c128_i32 : BitVec 32 := 128#32
  let v5 : BitVec 32 := Scalar.muli arg0 c128_i32
  let v6 : BitVec 32 := Scalar.addi v5 v0
  let v7 : BitVec 32 := Scalar.select v1 v4 v6
  let c0_i32 : BitVec 32 := 0#32
  ![v7.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c4_i32_0 : BitVec 32 := 4#32
  let v1 : BitVec 1 := Scalar.cmpi .slt arg2 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg2
  let c128_i32 : BitVec 32 := 128#32
  let v5 : BitVec 32 := Scalar.muli arg0 c128_i32
  let v6 : BitVec 32 := Scalar.addi v5 v0
  let v7 : BitVec 32 := Scalar.select v1 v4 v6
  let c0_i32 : BitVec 32 := 0#32
  ![v7.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c4_i32_0 : BitVec 32 := 4#32
  let v1 : BitVec 1 := Scalar.cmpi .slt arg2 c4_i32_0
  let c4_i32_1 : BitVec 32 := 4#32
  let v2 : BitVec 32 := Scalar.muli arg0 c4_i32_1
  let c256_i32 : BitVec 32 := 256#32
  let v3 : BitVec 32 := Scalar.addi c256_i32 v2
  let v4 : BitVec 32 := Scalar.addi v3 arg2
  let c128_i32 : BitVec 32 := 128#32
  let v5 : BitVec 32 := Scalar.muli arg0 c128_i32
  let v6 : BitVec 32 := Scalar.addi v5 v0
  let v7 : BitVec 32 := Scalar.select v1 v4 v6
  let c0_i32 : BitVec 32 := 0#32
  ![v7.toNat, arg1.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16896x4096 : Shape := ⟨2, ![16896, 4096]⟩
abbrev S1x4096 : Shape := ⟨2, ![1, 4096]⟩
abbrev S_ : Shape := ⟨0, ![]⟩
abbrev S512x4096 : Shape := ⟨2, ![512, 4096]⟩
abbrev S2x256x64x64 : Shape := ⟨4, ![2, 256, 64, 64]⟩
abbrev S16384x4096 : Shape := ⟨2, ![16384, 4096]⟩
abbrev S2x8192x64x64 : Shape := ⟨4, ![2, 8192, 64, 64]⟩
abbrev S2x8448x64x64 : Shape := ⟨4, ![2, 8448, 64, 64]⟩
abbrev S8448x2x64x64 : Shape := ⟨4, ![8448, 2, 64, 64]⟩
abbrev S2x64x64x64 : Shape := ⟨4, ![2, 64, 64, 64]⟩
abbrev S1x2x64x64 : Shape := ⟨4, ![1, 2, 64, 64]⟩
abbrev S2x64x64 : Shape := ⟨3, ![2, 64, 64]⟩
abbrev S2x64x1x64 : Shape := ⟨4, ![2, 64, 1, 64]⟩
abbrev S2x64x64x1 : Shape := ⟨4, ![2, 64, 64, 1]⟩

abbrev nBuf : Space → Nat
  | .hbm => 137
  | .vmem => 0
  | .smem => 0
  | _ => 0

abbrev hbmTy0_0 (i : Nat) : BufTy := match i % 128 with
  | 0 => ⟨S16896x4096, .bf16⟩
  | 1 => ⟨S16896x4096, .bf16⟩
  | 2 => ⟨S16896x4096, .bf16⟩
  | 3 => ⟨S16896x4096, .bf16⟩
  | 4 => ⟨S16896x4096, .bf16⟩
  | 5 => ⟨S16896x4096, .f32⟩
  | 6 => ⟨S1x4096, .f32⟩
  | 7 => ⟨S16896x4096, .f32⟩
  | 8 => ⟨S16896x4096, .f32⟩
  | 9 => ⟨S16896x4096, .f32⟩
  | 10 => ⟨S16896x4096, .f32⟩
  | 11 => ⟨S16896x4096, .f32⟩
  | 12 => ⟨S16896x4096, .f32⟩
  | 13 => ⟨S_, .f32⟩
  | 14 => ⟨S16896x4096, .f32⟩
  | 15 => ⟨S16896x4096, .f32⟩
  | 16 => ⟨S16896x4096, .f32⟩
  | 17 => ⟨S16896x4096, .f32⟩
  | 18 => ⟨S_, .f32⟩
  | 19 => ⟨S16896x4096, .f32⟩
  | 20 => ⟨S16896x4096, .f32⟩
  | 21 => ⟨S16896x4096, .f32⟩
  | 22 => ⟨S16896x4096, .f32⟩
  | 23 => ⟨S16896x4096, .f32⟩
  | 24 => ⟨S512x4096, .f32⟩
  | 25 => ⟨S2x256x64x64, .f32⟩
  | 26 => ⟨S16384x4096, .f32⟩
  | 27 => ⟨S2x8192x64x64, .f32⟩
  | 28 => ⟨S2x8448x64x64, .f32⟩
  | 29 => ⟨S8448x2x64x64, .f32⟩
  | 30 => ⟨S512x4096, .f32⟩
  | 31 => ⟨S2x256x64x64, .f32⟩
  | 32 => ⟨S16384x4096, .f32⟩
  | 33 => ⟨S2x8192x64x64, .f32⟩
  | 34 => ⟨S2x8448x64x64, .f32⟩
  | 35 => ⟨S8448x2x64x64, .f32⟩
  | 36 => ⟨S512x4096, .f32⟩
  | 37 => ⟨S2x256x64x64, .f32⟩
  | 38 => ⟨S16384x4096, .f32⟩
  | 39 => ⟨S2x8192x64x64, .f32⟩
  | 40 => ⟨S2x8448x64x64, .f32⟩
  | 41 => ⟨S8448x2x64x64, .f32⟩
  | 42 => ⟨S512x4096, .f32⟩
  | 43 => ⟨S2x256x64x64, .f32⟩
  | 44 => ⟨S16384x4096, .f32⟩
  | 45 => ⟨S2x8192x64x64, .f32⟩
  | 46 => ⟨S2x8448x64x64, .f32⟩
  | 47 => ⟨S8448x2x64x64, .f32⟩
  | 48 => ⟨S512x4096, .f32⟩
  | 49 => ⟨S2x256x64x64, .f32⟩
  | 50 => ⟨S16384x4096, .f32⟩
  | 51 => ⟨S2x8192x64x64, .f32⟩
  | 52 => ⟨S2x8448x64x64, .f32⟩
  | 53 => ⟨S8448x2x64x64, .f32⟩
  | 54 => ⟨S512x4096, .f32⟩
  | 55 => ⟨S2x256x64x64, .f32⟩
  | 56 => ⟨S16384x4096, .f32⟩
  | 57 => ⟨S2x8192x64x64, .f32⟩
  | 58 => ⟨S2x8448x64x64, .f32⟩
  | 59 => ⟨S8448x2x64x64, .f32⟩
  | 60 => ⟨S_, .f32⟩
  | 61 => ⟨S2x64x64x64, .f32⟩
  | 62 => ⟨S_, .f32⟩
  | 63 => ⟨S8448x2x64x64, .f32⟩
  | 64 => ⟨S_, .i32⟩
  | 65 => ⟨S8448x2x64x64, .f32⟩
  | 66 => ⟨S8448x2x64x64, .f32⟩
  | 67 => ⟨S8448x2x64x64, .f32⟩
  | 68 => ⟨S8448x2x64x64, .f32⟩
  | 69 => ⟨S8448x2x64x64, .f32⟩
  | 70 => ⟨S8448x2x64x64, .f32⟩
  | 71 => ⟨S_, .i32⟩
  | 72 => ⟨S2x64x64x64, .f32⟩
  | 73 => ⟨S8448x2x64x64, .f32⟩
  | 74 => ⟨S_, .i32⟩
  | 75 => ⟨S_, .i1⟩
  | 76 => ⟨S_, .i32⟩
  | 77 => ⟨S_, .i32⟩
  | 78 => ⟨S_, .i32⟩
  | 79 => ⟨S1x2x64x64, .f32⟩
  | 80 => ⟨S2x64x64, .f32⟩
  | 81 => ⟨S_, .i32⟩
  | 82 => ⟨S_, .i32⟩
  | 83 => ⟨S_, .i32⟩
  | 84 => ⟨S1x2x64x64, .f32⟩
  | 85 => ⟨S2x64x64, .f32⟩
  | 86 => ⟨S_, .i32⟩
  | 87 => ⟨S_, .i32⟩
  | 88 => ⟨S_, .i32⟩
  | 89 => ⟨S1x2x64x64, .f32⟩
  | 90 => ⟨S2x64x64, .f32⟩
  | 91 => ⟨S_, .i32⟩
  | 92 => ⟨S_, .i32⟩
  | 93 => ⟨S_, .i32⟩
  | 94 => ⟨S1x2x64x64, .f32⟩
  | 95 => ⟨S2x64x64, .f32⟩
  | 96 => ⟨S_, .i32⟩
  | 97 => ⟨S_, .i32⟩
  | 98 => ⟨S_, .i32⟩
  | 99 => ⟨S1x2x64x64, .f32⟩
  | 100 => ⟨S2x64x64, .f32⟩
  | 101 => ⟨S_, .i32⟩
  | 102 => ⟨S_, .i32⟩
  | 103 => ⟨S_, .i32⟩
  | 104 => ⟨S1x2x64x64, .f32⟩
  | 105 => ⟨S2x64x64, .f32⟩
  | 106 => ⟨S2x64x64, .f32⟩
  | 107 => ⟨S2x64x1x64, .f32⟩
  | 108 => ⟨S2x64x64x64, .f32⟩
  | 109 => ⟨S2x64x64x64, .f32⟩
  | 110 => ⟨S2x64x64x1, .f32⟩
  | 111 => ⟨S2x64x1x64, .f32⟩
  | 112 => ⟨S2x64x64x64, .f32⟩
  | 113 => ⟨S2x64x64x64, .f32⟩
  | 114 => ⟨S2x64x64x64, .f32⟩
  | 115 => ⟨S2x64x64x64, .f32⟩
  | 116 => ⟨S2x64x64x1, .f32⟩
  | 117 => ⟨S2x64x1x64, .f32⟩
  | 118 => ⟨S2x64x64x64, .f32⟩
  | 119 => ⟨S2x64x64x64, .f32⟩
  | 120 => ⟨S2x64x64x64, .f32⟩
  | 121 => ⟨S2x64x64x64, .f32⟩
  | 122 => ⟨S2x64x64, .f32⟩
  | 123 => ⟨S1x2x64x64, .f32⟩
  | 124 => ⟨S_, .i32⟩
  | 125 => ⟨S_, .i32⟩
  | 126 => ⟨S_, .i32⟩
  | 127 => ⟨S8448x2x64x64, .f32⟩
  | _ => ⟨S16896x4096, .bf16⟩

abbrev hbmTy0_1 (i : Nat) : BufTy := match i % 128 with
  | 0 => ⟨S_, .i32⟩
  | 1 => ⟨S_, .i32⟩
  | 2 => ⟨S2x8448x64x64, .f32⟩
  | 3 => ⟨S2x8192x64x64, .f32⟩
  | 4 => ⟨S16384x4096, .f32⟩
  | 5 => ⟨S2x256x64x64, .f32⟩
  | 6 => ⟨S512x4096, .f32⟩
  | 7 => ⟨S16896x4096, .f32⟩
  | 8 => ⟨S16896x4096, .bf16⟩
  | _ => ⟨S16896x4096, .bf16⟩

abbrev hbmTy (i : Nat) : BufTy := match i / 128 with
  | 0 => hbmTy0_0 i
  | 1 => hbmTy0_1 i
  | _ => ⟨S16896x4096, .bf16⟩

abbrev bufTy : (tb : Table) → Fin (tcTables nBuf tb) → BufTy
  | .hbm, ⟨i, _⟩ => hbmTy i
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_1 : Ref sig .tc := ⟨.hbm, 60, rfl⟩
abbrev main_v51 : Ref sig .tc := ⟨.hbm, 61, rfl⟩
abbrev main_cst_2 : Ref sig .tc := ⟨.hbm, 62, rfl⟩
abbrev main_v52 : Ref sig .tc := ⟨.hbm, 63, rfl⟩
abbrev main_c : Ref sig .tc := ⟨.hbm, 64, rfl⟩
abbrev main_v53_0 : Ref sig .tc := ⟨.hbm, 65, rfl⟩
abbrev main_v53_1 : Ref sig .tc := ⟨.hbm, 66, rfl⟩
abbrev main_v53_2 : Ref sig .tc := ⟨.hbm, 67, rfl⟩
abbrev main_v53_3 : Ref sig .tc := ⟨.hbm, 68, rfl⟩
abbrev main_v53_4 : Ref sig .tc := ⟨.hbm, 69, rfl⟩
abbrev main_v53_5 : Ref sig .tc := ⟨.hbm, 70, rfl⟩
abbrev main_v53_6 : Ref sig .tc := ⟨.hbm, 71, rfl⟩
abbrev main_v53_7 : Ref sig .tc := ⟨.hbm, 72, rfl⟩
abbrev main_v53_8 : Ref sig .tc := ⟨.hbm, 73, rfl⟩
abbrev main_while0c_c_11 : Ref sig .tc := ⟨.hbm, 74, rfl⟩
abbrev main_while0c_v61 : Ref sig .tc := ⟨.hbm, 75, rfl⟩
abbrev main_while0b_call0_c : Ref sig .tc := ⟨.hbm, 76, rfl⟩
abbrev main_while0b_call0_c_0 : Ref sig .tc := ⟨.hbm, 77, rfl⟩
abbrev main_while0b_call0_c_1 : Ref sig .tc := ⟨.hbm, 78, rfl⟩
abbrev main_while0b_call0_v0 : Ref sig .tc := ⟨.hbm, 79, rfl⟩
abbrev main_while0b_v61 : Ref sig .tc := ⟨.hbm, 80, rfl⟩
abbrev main_while0b_call1_c : Ref sig .tc := ⟨.hbm, 81, rfl⟩
abbrev main_while0b_call1_c_0 : Ref sig .tc := ⟨.hbm, 82, rfl⟩
abbrev main_while0b_call1_c_1 : Ref sig .tc := ⟨.hbm, 83, rfl⟩
abbrev main_while0b_call1_v0 : Ref sig .tc := ⟨.hbm, 84, rfl⟩
abbrev main_while0b_v62 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_v0 : Ref sig .tc := ⟨.hbm, 89, rfl⟩
abbrev main_while0b_v63 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_v0 : Ref sig .tc := ⟨.hbm, 94, rfl⟩
abbrev main_while0b_v64 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_c_1 : Ref sig .tc := ⟨.hbm, 98, rfl⟩
abbrev main_while0b_call4_v0 : Ref sig .tc := ⟨.hbm, 99, rfl⟩
abbrev main_while0b_v65 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_v0 : Ref sig .tc := ⟨.hbm, 104, rfl⟩
abbrev main_while0b_v66 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_call6_v0 : Ref sig .tc := ⟨.hbm, 123, rfl⟩
abbrev main_while0b_call6_c : Ref sig .tc := ⟨.hbm, 124, rfl⟩
abbrev main_while0b_call6_c_0 : Ref sig .tc := ⟨.hbm, 125, rfl⟩
abbrev main_while0b_call6_c_1 : Ref sig .tc := ⟨.hbm, 126, rfl⟩
abbrev main_while0b_v84 : Ref sig .tc := ⟨.hbm, 127, rfl⟩
abbrev main_while0b_c_11 : Ref sig .tc := ⟨.hbm, 128, rfl⟩
abbrev main_while0b_v85 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩

abbrev nD : Nat := 1
abbrev τ : Topo := Topo.v7x

variable {F : FTy → Type} [FloatOps F]

abbrev main_while0_count : Scf.Loop 32 := ⟨0#32, 8448#32, 1#32⟩
-- ==== Kernel2.lean ====
abbrev S16896x4096 : Shape := ⟨2, ![16896, 4096]⟩
abbrev S4x4096x11008 : Shape := ⟨3, ![4, 4096, 11008]⟩
abbrev S16896x11008 : Shape := ⟨2, ![16896, 11008]⟩
abbrev S1536x4096 : Shape := ⟨2, ![1536, 4096]⟩
abbrev S1x4096x256 : Shape := ⟨3, ![1, 4096, 256]⟩
abbrev S1536x256 : Shape := ⟨2, ![1536, 256]⟩
abbrev S4096x256 : Shape := ⟨2, ![4096, 256]⟩

abbrev nBuf : Space → Nat
  | .hbm => 4
  | .vmem => 7
  | .smem => 0
  | _ => 0

abbrev bufTy : (tb : Table) → Fin (tcTables nBuf tb) → BufTy
  | .hbm, ⟨0, _⟩ => ⟨S16896x4096, .bf16⟩
  | .hbm, ⟨1, _⟩ => ⟨S4x4096x11008, .f32⟩
  | .hbm, ⟨2, _⟩ => ⟨S4x4096x11008, .f32⟩
  | .hbm, ⟨3, _⟩ => ⟨S16896x11008, .bf16⟩
  | .local _ .vmem, ⟨0, _⟩ => ⟨S1536x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1536x256, .bf16⟩
  | .local _ .vmem, ⟨6, _⟩ => ⟨S1536x256, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16896x4096 : Shape := ⟨2, ![16896, 4096]⟩
abbrev S4x4096x11008 : Shape := ⟨3, ![4, 4096, 11008]⟩
abbrev S1x4096x11008 : Shape := ⟨3, ![1, 4096, 11008]⟩
abbrev S4096x11008 : Shape := ⟨2, ![4096, 11008]⟩
abbrev S16896x11008 : Shape := ⟨2, ![16896, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4x4096x11008, .f32⟩
  | .hbm, ⟨2, _⟩ => ⟨S4x4096x11008, .f32⟩
  | .hbm, ⟨3, _⟩ => ⟨S16896x4096, .f32⟩
  | .hbm, ⟨4, _⟩ => ⟨S1x4096x11008, .f32⟩
  | .hbm, ⟨5, _⟩ => ⟨S4096x11008, .f32⟩
  | .hbm, ⟨6, _⟩ => ⟨S16896x11008, .f32⟩
  | .hbm, ⟨7, _⟩ => ⟨S16896x11008, .f32⟩
  | .hbm, ⟨8, _⟩ => ⟨S16896x11008, .f32⟩
  | .hbm, ⟨9, _⟩ => ⟨S_, .f32⟩
  | .hbm, ⟨10, _⟩ => ⟨S16896x11008, .f32⟩
  | .hbm, ⟨11, _⟩ => ⟨S16896x11008, .f32⟩
  | .hbm, ⟨12, _⟩ => ⟨S_, .f32⟩
  | .hbm, ⟨13, _⟩ => ⟨S16896x11008, .f32⟩
  | .hbm, ⟨14, _⟩ => ⟨S16896x11008, .f32⟩
  | .hbm, ⟨15, _⟩ => ⟨S16896x11008, .f32⟩
  | .hbm, ⟨16, _⟩ => ⟨S1x4096x11008, .f32⟩
  | .hbm, ⟨17, _⟩ => ⟨S4096x11008, .f32⟩
  | .hbm, ⟨18, _⟩ => ⟨S16896x11008, .f32⟩
  | .hbm, ⟨19, _⟩ => ⟨S16896x11008, .f32⟩
  | .hbm, ⟨20, _⟩ => ⟨S16896x11008, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S16896x11008 : Shape := ⟨2, ![16896, 11008]⟩
abbrev S4x11008x4096 : Shape := ⟨3, ![4, 11008, 4096]⟩
abbrev S16896x4096 : Shape := ⟨2, ![16896, 4096]⟩
abbrev S768x5504 : Shape := ⟨2, ![768, 5504]⟩
abbrev S1x5504x1024 : Shape := ⟨3, ![1, 5504, 1024]⟩
abbrev S768x1024 : Shape := ⟨2, ![768, 1024]⟩
abbrev S5504x1024 : Shape := ⟨2, ![5504, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16896x11008, .bf16⟩
  | .hbm, ⟨1, _⟩ => ⟨S4x11008x4096, .f32⟩
  | .hbm, ⟨2, _⟩ => ⟨S4x11008x4096, .bf16⟩
  | .hbm, ⟨3, _⟩ => ⟨S16896x4096, .bf16⟩
  | .local _ .vmem, ⟨0, _⟩ => ⟨S768x5504, .bf16⟩
  | .local _ .vmem, ⟨1, _⟩ => ⟨S768x5504, .bf16⟩
  | .local _ .vmem, ⟨2, _⟩ => ⟨S1x5504x1024, .bf16⟩
  | .local _ .vmem, ⟨3, _⟩ => ⟨S1x5504x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S16896x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16896x11008 : Shape := ⟨2, ![16896, 11008]⟩
abbrev S4x11008x4096 : Shape := ⟨3, ![4, 11008, 4096]⟩
abbrev S1x11008x4096 : Shape := ⟨3, ![1, 11008, 4096]⟩
abbrev S11008x4096 : Shape := ⟨2, ![11008, 4096]⟩
abbrev S16896x4096 : Shape := ⟨2, ![16896, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16896x11008, .bf16⟩
  | .hbm, ⟨1, _⟩ => ⟨S4x11008x4096, .f32⟩
  | .hbm, ⟨2, _⟩ => ⟨S16896x11008, .f32⟩
  | .hbm, ⟨3, _⟩ => ⟨S1x11008x4096, .f32⟩
  | .hbm, ⟨4, _⟩ => ⟨S11008x4096, .f32⟩
  | .hbm, ⟨5, _⟩ => ⟨S16896x4096, .f32⟩
  | .hbm, ⟨6, _⟩ => ⟨S16896x4096, .bf16⟩
  | _, _ => ⟨S16896x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16896x4096 : Shape := ⟨2, ![16896, 4096]⟩
abbrev S2x3x4096x4096 : Shape := ⟨4, ![2, 3, 4096, 4096]⟩
abbrev S512x4096 : Shape := ⟨2, ![512, 4096]⟩
abbrev S1x1x4096x1024 : Shape := ⟨4, ![1, 1, 4096, 1024]⟩
abbrev S512x1024 : Shape := ⟨2, ![512, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S2x3x4096x4096, .f32⟩
  | .hbm, ⟨2, _⟩ => ⟨S2x3x4096x4096, .bf16⟩
  | .hbm, ⟨3, _⟩ => ⟨S16896x4096, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x1024, .bf16⟩
  | .local _ .vmem, ⟨3, _⟩ => ⟨S1x1x4096x1024, .bf16⟩
  | .local _ .vmem, ⟨4, _⟩ => ⟨S512x1024, .bf16⟩
  | .local _ .vmem, ⟨5, _⟩ => ⟨S512x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![33, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16896x4096 : Shape := ⟨2, ![16896, 4096]⟩
abbrev S2x3x4096x4096 : Shape := ⟨4, ![2, 3, 4096, 4096]⟩
abbrev S1x1x4096x4096 : Shape := ⟨4, ![1, 1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x3x4096x4096, .f32⟩
  | .hbm, ⟨2, _⟩ => ⟨S16896x4096, .f32⟩
  | .hbm, ⟨3, _⟩ => ⟨S1x1x4096x4096, .f32⟩
  | .hbm, ⟨4, _⟩ => ⟨S4096x4096, .f32⟩
  | .hbm, ⟨5, _⟩ => ⟨S16896x4096, .f32⟩
  | .hbm, ⟨6, _⟩ => ⟨S16896x4096, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16896x4096 : Shape := ⟨2, ![16896, 4096]⟩
abbrev S2x4096x4096 : Shape := ⟨3, ![2, 4096, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S2x4096x4096, .f32⟩
  | .hbm, ⟨2, _⟩ => ⟨S2x4096x4096, .bf16⟩
  | .hbm, ⟨3, _⟩ => ⟨S16896x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .bf16⟩
  | .local _ .vmem, ⟨5, _⟩ => ⟨S512x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![33, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16896x4096 : Shape := ⟨2, ![16896, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x4096, .f32⟩
  | .hbm, ⟨2, _⟩ => ⟨S16896x4096, .f32⟩
  | .hbm, ⟨3, _⟩ => ⟨S1x4096x4096, .f32⟩
  | .hbm, ⟨4, _⟩ => ⟨S4096x4096, .f32⟩
  | .hbm, ⟨5, _⟩ => ⟨S16896x4096, .f32⟩
  | .hbm, ⟨6, _⟩ => ⟨S16896x4096, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S16896x4096 : Shape := ⟨2, ![16896, 4096]⟩
abbrev S2x4096x6144 : Shape := ⟨3, ![2, 4096, 6144]⟩
abbrev S16896x6144 : Shape := ⟨2, ![16896, 6144]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S2x4096x6144, .f32⟩
  | .hbm, ⟨2, _⟩ => ⟨S2x4096x6144, .bf16⟩
  | .hbm, ⟨3, _⟩ => ⟨S16896x6144, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .bf16⟩
  | .local _ .vmem, ⟨5, _⟩ => ⟨S512x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![33, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16896x4096 : Shape := ⟨2, ![16896, 4096]⟩
abbrev S2x4096x6144 : Shape := ⟨3, ![2, 4096, 6144]⟩
abbrev S1x4096x6144 : Shape := ⟨3, ![1, 4096, 6144]⟩
abbrev S4096x6144 : Shape := ⟨2, ![4096, 6144]⟩
abbrev S16896x6144 : Shape := ⟨2, ![16896, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x6144, .f32⟩
  | .hbm, ⟨2, _⟩ => ⟨S16896x4096, .f32⟩
  | .hbm, ⟨3, _⟩ => ⟨S1x4096x6144, .f32⟩
  | .hbm, ⟨4, _⟩ => ⟨S4096x6144, .f32⟩
  | .hbm, ⟨5, _⟩ => ⟨S16896x6144, .f32⟩
  | .hbm, ⟨6, _⟩ => ⟨S16896x6144, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S16896x2048 : Shape := ⟨2, ![16896, 2048]⟩
abbrev S2x4096x4096 : Shape := ⟨3, ![2, 4096, 4096]⟩
abbrev S16896x4096 : Shape := ⟨2, ![16896, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16896x2048, .f32⟩
  | .hbm, ⟨1, _⟩ => ⟨S16896x2048, .bf16⟩
  | .hbm, ⟨2, _⟩ => ⟨S2x4096x4096, .f32⟩
  | .hbm, ⟨3, _⟩ => ⟨S2x4096x4096, .bf16⟩
  | .hbm, ⟨4, _⟩ => ⟨S16896x4096, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S512x1024, .bf16⟩
  | .local _ .vmem, ⟨9, _⟩ => ⟨S512x1024, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![33, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![c0_i32.toNat, v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S16896x2048 : Shape := ⟨2, ![16896, 2048]⟩
abbrev S2x4096x4096 : Shape := ⟨3, ![2, 4096, 4096]⟩
abbrev S16896x4096 : Shape := ⟨2, ![16896, 4096]⟩
abbrev S1x4096x4096 : Shape := ⟨3, ![1, 4096, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S16896x2048, .bf16⟩
  | .hbm, ⟨2, _⟩ => ⟨S2x4096x4096, .f32⟩
  | .hbm, ⟨3, _⟩ => ⟨S16896x2048, .f32⟩
  | .hbm, ⟨4, _⟩ => ⟨S16896x4096, .f32⟩
  | .hbm, ⟨5, _⟩ => ⟨S1x4096x4096, .f32⟩
  | .hbm, ⟨6, _⟩ => ⟨S4096x4096, .f32⟩
  | .hbm, ⟨7, _⟩ => ⟨S16896x4096, .f32⟩
  | .hbm, ⟨8, _⟩ => ⟨S16896x4096, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S16896x4096 : Shape := ⟨2, ![16896, 4096]⟩
abbrev S1x1x4096 : Shape := ⟨3, ![1, 1, 4096]⟩
abbrev S3x8x4096 : Shape := ⟨3, ![3, 8, 4096]⟩
abbrev S16384x4096 : Shape := ⟨2, ![16384, 4096]⟩
abbrev S256x4096 : Shape := ⟨2, ![256, 4096]⟩
abbrev S1x8x4096 : Shape := ⟨3, ![1, 8, 4096]⟩
abbrev S1x4096 : Shape := ⟨2, ![1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16896x4096, .f32⟩
  | .hbm, ⟨1, _⟩ => ⟨S16896x4096, .bf16⟩
  | .hbm, ⟨2, _⟩ => ⟨S1x1x4096, .f32⟩
  | .hbm, ⟨3, _⟩ => ⟨S3x8x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x1x4096, .f32⟩
  | .local _ .vmem, ⟨5, _⟩ => ⟨S1x8x4096, .f32⟩
  | .local _ .vmem, ⟨6, _⟩ => ⟨S1x8x4096, .f32⟩
  | .local _ .vmem, ⟨7, _⟩ => ⟨S256x4096, .f32⟩
  | .local _ .vmem, ⟨8, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16896x4096 : Shape := ⟨2, ![16896, 4096]⟩
abbrev S1x1x4096 : Shape := ⟨3, ![1, 1, 4096]⟩
abbrev S3x8x4096 : Shape := ⟨3, ![3, 8, 4096]⟩
abbrev S4096 : Shape := ⟨1, ![4096]⟩
abbrev S8192x4096 : Shape := ⟨2, ![8192, 4096]⟩
abbrev S512x4096 : Shape := ⟨2, ![512, 4096]⟩
abbrev S1x4096 : Shape := ⟨2, ![1, 4096]⟩
abbrev S_ : Shape := ⟨0, ![]⟩
abbrev S16896 : Shape := ⟨1, ![16896]⟩
abbrev S16896x1 : Shape := ⟨2, ![16896, 1]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .bf16⟩
  | .hbm, ⟨2, _⟩ => ⟨S1x1x4096, .f32⟩
  | .hbm, ⟨3, _⟩ => ⟨S3x8x4096, .f32⟩
  | .hbm, ⟨4, _⟩ => ⟨S1x1x4096, .f32⟩
  | .hbm, ⟨5, _⟩ => ⟨S4096, .f32⟩
  | .hbm, ⟨6, _⟩ => ⟨S8192x4096, .f32⟩
  | .hbm, ⟨7, _⟩ => ⟨S1x1x4096, .f32⟩
  | .hbm, ⟨8, _⟩ => ⟨S4096, .f32⟩
  | .hbm, ⟨9, _⟩ => ⟨S8192x4096, .f32⟩
  | .hbm, ⟨10, _⟩ => ⟨S1x1x4096, .f32⟩
  | .hbm, ⟨11, _⟩ => ⟨S4096, .f32⟩
  | .hbm, ⟨12, _⟩ => ⟨S512x4096, .f32⟩
  | .hbm, ⟨13, _⟩ => ⟨S16896x4096, .f32⟩
  | .hbm, ⟨14, _⟩ => ⟨S16896x4096, .f32⟩
  | .hbm, ⟨15, _⟩ => ⟨S1x4096, .f32⟩
  | .hbm, ⟨16, _⟩ => ⟨S16896x4096, .f32⟩
  | .hbm, ⟨17, _⟩ => ⟨S_, .f32⟩
  | .hbm, ⟨18, _⟩ => ⟨S16896, .f32⟩
  | .hbm, ⟨19, _⟩ => ⟨S16896x1, .f32⟩
  | .hbm, ⟨20, _⟩ => ⟨S_, .f32⟩
  | .hbm, ⟨21, _⟩ => ⟨S16896x1, .f32⟩
  | .hbm, ⟨22, _⟩ => ⟨S16896x1, .f32⟩
  | .hbm, ⟨23, _⟩ => ⟨S_, .f32⟩
  | .hbm, ⟨24, _⟩ => ⟨S16896x1, .f32⟩
  | .hbm, ⟨25, _⟩ => ⟨S16896x1, .f32⟩
  | .hbm, ⟨26, _⟩ => ⟨S16896x1, .f32⟩
  | .hbm, ⟨27, _⟩ => ⟨S16896x4096, .f32⟩
  | .hbm, ⟨28, _⟩ => ⟨S16896x4096, .f32⟩
  | .hbm, ⟨29, _⟩ => ⟨S16896x4096, .f32⟩
  | .hbm, ⟨30, _⟩ => ⟨S16896x4096, .f32⟩
  | .hbm, ⟨31, _⟩ => ⟨S16896x4096, .f32⟩
  | .hbm, ⟨32, _⟩ => ⟨S16896x4096, .f32⟩
  | .hbm, ⟨33, _⟩ => ⟨S16384x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel9.lean ====
abbrev S16896x4096 : Shape := ⟨2, ![16896, 4096]⟩
abbrev S1x1x4096 : Shape := ⟨3, ![1, 1, 4096]⟩
abbrev S3x8x4096 : Shape := ⟨3, ![3, 8, 4096]⟩
abbrev S256x4096 : Shape := ⟨2, ![256, 4096]⟩
abbrev S1x8x4096 : Shape := ⟨3, ![1, 8, 4096]⟩
abbrev S1x4096 : Shape := ⟨2, ![1, 4096]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S16896x4096, .f32⟩
  | .hbm, ⟨1, _⟩ => ⟨S16896x4096, .bf16⟩
  | .hbm, ⟨2, _⟩ => ⟨S1x1x4096, .f32⟩
  | .hbm, ⟨3, _⟩ => ⟨S3x8x4096, .f32⟩
  | .hbm, ⟨4, _⟩ => ⟨S1x1x4096, .f32⟩
  | .hbm, ⟨5, _⟩ => ⟨S16896x4096, .f32⟩
  | .hbm, ⟨6, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x1x4096, .f32⟩
  | .local _ .vmem, ⟨5, _⟩ => ⟨S1x8x4096, .f32⟩
  | .local _ .vmem, ⟨6, _⟩ => ⟨S1x8x4096, .f32⟩
  | .local _ .vmem, ⟨7, _⟩ => ⟨S1x1x4096, .f32⟩
  | .local _ .vmem, ⟨8, _⟩ => ⟨S1x8x4096, .f32⟩
  | .local _ .vmem, ⟨9, _⟩ => ⟨S1x8x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S16896x4096 : Shape := ⟨2, ![16896, 4096]⟩
abbrev S1x1x4096 : Shape := ⟨3, ![1, 1, 4096]⟩
abbrev S3x8x4096 : Shape := ⟨3, ![3, 8, 4096]⟩
abbrev S4096 : Shape := ⟨1, ![4096]⟩
abbrev S8192x4096 : Shape := ⟨2, ![8192, 4096]⟩
abbrev S512x4096 : Shape := ⟨2, ![512, 4096]⟩
abbrev S1x4096 : Shape := ⟨2, ![1, 4096]⟩
abbrev S_ : Shape := ⟨0, ![]⟩
abbrev S16896 : Shape := ⟨1, ![16896]⟩
abbrev S16896x1 : Shape := ⟨2, ![16896, 1]⟩

abbrev nBuf : Space → Nat
  | .hbm => 76
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .bf16⟩
  | .hbm, ⟨2, _⟩ => ⟨S1x1x4096, .f32⟩
  | .hbm, ⟨3, _⟩ => ⟨S3x8x4096, .f32⟩
  | .hbm, ⟨4, _⟩ => ⟨S1x1x4096, .f32⟩
  | .hbm, ⟨5, _⟩ => ⟨S1x1x4096, .f32⟩
  | .hbm, ⟨6, _⟩ => ⟨S4096, .f32⟩
  | .hbm, ⟨7, _⟩ => ⟨S8192x4096, .f32⟩
  | .hbm, ⟨8, _⟩ => ⟨S1x1x4096, .f32⟩
  | .hbm, ⟨9, _⟩ => ⟨S4096, .f32⟩
  | .hbm, ⟨10, _⟩ => ⟨S8192x4096, .f32⟩
  | .hbm, ⟨11, _⟩ => ⟨S1x1x4096, .f32⟩
  | .hbm, ⟨12, _⟩ => ⟨S4096, .f32⟩
  | .hbm, ⟨13, _⟩ => ⟨S512x4096, .f32⟩
  | .hbm, ⟨14, _⟩ => ⟨S16896x4096, .f32⟩
  | .hbm, ⟨15, _⟩ => ⟨S16896x4096, .f32⟩
  | .hbm, ⟨16, _⟩ => ⟨S1x4096, .f32⟩
  | .hbm, ⟨17, _⟩ => ⟨S16896x4096, .f32⟩
  | .hbm, ⟨18, _⟩ => ⟨S_, .f32⟩
  | .hbm, ⟨19, _⟩ => ⟨S16896, .f32⟩
  | .hbm, ⟨20, _⟩ => ⟨S16896x1, .f32⟩
  | .hbm, ⟨21, _⟩ => ⟨S_, .f32⟩
  | .hbm, ⟨22, _⟩ => ⟨S16896x1, .f32⟩
  | .hbm, ⟨23, _⟩ => ⟨S16896x1, .f32⟩
  | .hbm, ⟨24, _⟩ => ⟨S_, .f32⟩
  | .hbm, ⟨25, _⟩ => ⟨S16896x1, .f32⟩
  | .hbm, ⟨26, _⟩ => ⟨S16896x1, .f32⟩
  | .hbm, ⟨27, _⟩ => ⟨S16896x1, .f32⟩
  | .hbm, ⟨28, _⟩ => ⟨S16896x4096, .f32⟩
  | .hbm, ⟨29, _⟩ => ⟨S16896x4096, .f32⟩
  | .hbm, ⟨30, _⟩ => ⟨S16896x4096, .f32⟩
  | .hbm, ⟨31, _⟩ => ⟨S16896x4096, .f32⟩
  | .hbm, ⟨32, _⟩ => ⟨S16896x4096, .f32⟩
  | .hbm, ⟨33, _⟩ => ⟨S16896x4096, .f32⟩
  | .hbm, ⟨34, _⟩ => ⟨S1x4096, .f32⟩
  | .hbm, ⟨35, _⟩ => ⟨S16896x4096, .f32⟩
  | .hbm, ⟨36, _⟩ => ⟨S_, .f32⟩
  | .hbm, ⟨37, _⟩ => ⟨S16896, .f32⟩
  | .hbm, ⟨38, _⟩ => ⟨S16896x1, .f32⟩
  | .hbm, ⟨39, _⟩ => ⟨S_, .f32⟩
  | .hbm, ⟨40, _⟩ => ⟨S16896x1, .f32⟩
  | .hbm, ⟨41, _⟩ => ⟨S16896x1, .f32⟩
  | .hbm, ⟨42, _⟩ => ⟨S_, .f32⟩
  | .hbm, ⟨43, _⟩ => ⟨S16896x1, .f32⟩
  | .hbm, ⟨44, _⟩ => ⟨S16896x1, .f32⟩
  | .hbm, ⟨45, _⟩ => ⟨S16896x1, .f32⟩
  | .hbm, ⟨46, _⟩ => ⟨S16896x4096, .f32⟩
  | .hbm, ⟨47, _⟩ => ⟨S16896x4096, .f32⟩
  | .hbm, ⟨48, _⟩ => ⟨S16896x4096, .f32⟩
  | .hbm, ⟨49, _⟩ => ⟨S16896x4096, .f32⟩
  | .hbm, ⟨50, _⟩ => ⟨S1x1x4096, .f32⟩
  | .hbm, ⟨51, _⟩ => ⟨S4096, .f32⟩
  | .hbm, ⟨52, _⟩ => ⟨S8192x4096, .f32⟩
  | .hbm, ⟨53, _⟩ => ⟨S1x1x4096, .f32⟩
  | .hbm, ⟨54, _⟩ => ⟨S4096, .f32⟩
  | .hbm, ⟨55, _⟩ => ⟨S8192x4096, .f32⟩
  | .hbm, ⟨56, _⟩ => ⟨S1x1x4096, .f32⟩
  | .hbm, ⟨57, _⟩ => ⟨S4096, .f32⟩
  | .hbm, ⟨58, _⟩ => ⟨S512x4096, .f32⟩
  | .hbm, ⟨59, _⟩ => ⟨S16896x4096, .f32⟩
  | .hbm, ⟨60, _⟩ => ⟨S_, .f32⟩
  | .hbm, ⟨61, _⟩ => ⟨S16896x4096, .f32⟩
  | .hbm, ⟨62, _⟩ => ⟨S16896x4096, .f32⟩
  | .hbm, ⟨63, _⟩ => ⟨S16896x4096, .f32⟩
  | .hbm, ⟨64, _⟩ => ⟨S1x1x4096, .f32⟩
  | .hbm, ⟨65, _⟩ => ⟨S4096, .f32⟩
  | .hbm, ⟨66, _⟩ => ⟨S8192x4096, .f32⟩
  | .hbm, ⟨67, _⟩ => ⟨S1x1x4096, .f32⟩
  | .hbm, ⟨68, _⟩ => ⟨S4096, .f32⟩
  | .hbm, ⟨69, _⟩ => ⟨S8192x4096, .f32⟩
  | .hbm, ⟨70, _⟩ => ⟨S1x1x4096, .f32⟩
  | .hbm, ⟨71, _⟩ => ⟨S4096, .f32⟩
  | .hbm, ⟨72, _⟩ => ⟨S512x4096, .f32⟩
  | .hbm, ⟨73, _⟩ => ⟨S16896x4096, .f32⟩
  | .hbm, ⟨74, _⟩ => ⟨S16896x4096, .f32⟩
  | .hbm, ⟨75, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Kernel10.lean ====
abbrev S16384x4096 : Shape := ⟨2, ![16384, 4096]⟩
abbrev S512x4096 : Shape := ⟨2, ![512, 4096]⟩
abbrev S8192x4096 : Shape := ⟨2, ![8192, 4096]⟩
abbrev S1x1x4096 : Shape := ⟨3, ![1, 1, 4096]⟩
abbrev S3x8x4096 : Shape := ⟨3, ![3, 8, 4096]⟩
abbrev S16896x4096 : Shape := ⟨2, ![16896, 4096]⟩
abbrev S256x4096 : Shape := ⟨2, ![256, 4096]⟩
abbrev S1x8x4096 : Shape := ⟨3, ![1, 8, 4096]⟩
abbrev S1x4096 : Shape := ⟨2, ![1, 4096]⟩
abbrev S256 : Shape := ⟨1, ![256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S512x4096, .f32⟩
  | .hbm, ⟨2, _⟩ => ⟨S8192x4096, .f32⟩
  | .hbm, ⟨3, _⟩ => ⟨S1x1x4096, .f32⟩
  | .hbm, ⟨4, _⟩ => ⟨S3x8x4096, .f32⟩
  | .hbm, ⟨5, _⟩ => ⟨S16896x4096, .f32⟩
  | .hbm, ⟨6, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x1x4096, .f32⟩
  | .local _ .vmem, ⟨7, _⟩ => ⟨S1x8x4096, .f32⟩
  | .local _ .vmem, ⟨8, _⟩ => ⟨S1x8x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S16384x4096 : Shape := ⟨2, ![16384, 4096]⟩
abbrev S512x4096 : Shape := ⟨2, ![512, 4096]⟩
abbrev S8192x4096 : Shape := ⟨2, ![8192, 4096]⟩
abbrev S1x1x4096 : Shape := ⟨3, ![1, 1, 4096]⟩
abbrev S3x8x4096 : Shape := ⟨3, ![3, 8, 4096]⟩
abbrev S16896x4096 : Shape := ⟨2, ![16896, 4096]⟩
abbrev S1x4096 : Shape := ⟨2, ![1, 4096]⟩
abbrev S_ : Shape := ⟨0, ![]⟩
abbrev S16896 : Shape := ⟨1, ![16896]⟩
abbrev S16896x1 : Shape := ⟨2, ![16896, 1]⟩
abbrev S4096 : Shape := ⟨1, ![4096]⟩

abbrev nBuf : Space → Nat
  | .hbm => 50
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S512x4096, .f32⟩
  | .hbm, ⟨2, _⟩ => ⟨S8192x4096, .f32⟩
  | .hbm, ⟨3, _⟩ => ⟨S1x1x4096, .f32⟩
  | .hbm, ⟨4, _⟩ => ⟨S3x8x4096, .f32⟩
  | .hbm, ⟨5, _⟩ => ⟨S16384x4096, .f32⟩
  | .hbm, ⟨6, _⟩ => ⟨S16384x4096, .f32⟩
  | .hbm, ⟨7, _⟩ => ⟨S16896x4096, .f32⟩
  | .hbm, ⟨8, _⟩ => ⟨S1x4096, .f32⟩
  | .hbm, ⟨9, _⟩ => ⟨S16896x4096, .f32⟩
  | .hbm, ⟨10, _⟩ => ⟨S_, .f32⟩
  | .hbm, ⟨11, _⟩ => ⟨S16896, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S_, .f32⟩
  | .hbm, ⟨17, _⟩ => ⟨S16896x1, .f32⟩
  | .hbm, ⟨18, _⟩ => ⟨S16896x1, .f32⟩
  | .hbm, ⟨19, _⟩ => ⟨S16896x1, .f32⟩
  | .hbm, ⟨20, _⟩ => ⟨S16896x4096, .f32⟩
  | .hbm, ⟨21, _⟩ => ⟨S16896x4096, .f32⟩
  | .hbm, ⟨22, _⟩ => ⟨S16896x4096, .f32⟩
  | .hbm, ⟨23, _⟩ => ⟨S16896x4096, .f32⟩
  | .hbm, ⟨24, _⟩ => ⟨S1x1x4096, .f32⟩
  | .hbm, ⟨25, _⟩ => ⟨S4096, .f32⟩
  | .hbm, ⟨26, _⟩ => ⟨S8192x4096, .f32⟩
  | .hbm, ⟨27, _⟩ => ⟨S1x1x4096, .f32⟩
  | .hbm, ⟨28, _⟩ => ⟨S4096, .f32⟩
  | .hbm, ⟨29, _⟩ => ⟨S8192x4096, .f32⟩
  | .hbm, ⟨30, _⟩ => ⟨S1x1x4096, .f32⟩
  | .hbm, ⟨31, _⟩ => ⟨S4096, .f32⟩
  | .hbm, ⟨32, _⟩ => ⟨S512x4096, .f32⟩
  | .hbm, ⟨33, _⟩ => ⟨S16896x4096, .f32⟩
  | .hbm, ⟨34, _⟩ => ⟨S_, .f32⟩
  | .hbm, ⟨35, _⟩ => ⟨S16896x4096, .f32⟩
  | .hbm, ⟨36, _⟩ => ⟨S16896x4096, .f32⟩
  | .hbm, ⟨37, _⟩ => ⟨S16896x4096, .f32⟩
  | .hbm, ⟨38, _⟩ => ⟨S1x1x4096, .f32⟩
  | .hbm, ⟨39, _⟩ => ⟨S4096, .f32⟩
  | .hbm, ⟨40, _⟩ => ⟨S8192x4096, .f32⟩
  | .hbm, ⟨41, _⟩ => ⟨S1x1x4096, .f32⟩
  | .hbm, ⟨42, _⟩ => ⟨S4096, .f32⟩
  | .hbm, ⟨43, _⟩ => ⟨S8192x4096, .f32⟩
  | .hbm, ⟨44, _⟩ => ⟨S1x1x4096, .f32⟩
  | .hbm, ⟨45, _⟩ => ⟨S4096, .f32⟩
  | .hbm, ⟨46, _⟩ => ⟨S512x4096, .f32⟩
  | .hbm, ⟨47, _⟩ => ⟨S16896x4096, .f32⟩
  | .hbm, ⟨48, _⟩ => ⟨S16896x4096, .f32⟩
  | .hbm, ⟨49, _⟩ => ⟨S16896x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel11.lean ====
abbrev S16896x512 : Shape := ⟨2, ![16896, 512]⟩
abbrev S2x480x4096 : Shape := ⟨3, ![2, 480, 4096]⟩
abbrev S1x480x4096 : Shape := ⟨3, ![1, 480, 4096]⟩
abbrev S480x4096 : Shape := ⟨2, ![480, 4096]⟩
abbrev S_ : Shape := ⟨0, ![]⟩
abbrev S512x4096 : Shape := ⟨2, ![512, 4096]⟩
abbrev S16896x4096 : Shape := ⟨2, ![16896, 4096]⟩
abbrev S512x512 : Shape := ⟨2, ![512, 512]⟩
abbrev S512x1024 : Shape := ⟨2, ![512, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16896x512, .bf16⟩
  | .hbm, ⟨1, _⟩ => ⟨S2x480x4096, .f32⟩
  | .hbm, ⟨2, _⟩ => ⟨S1x480x4096, .f32⟩
  | .hbm, ⟨3, _⟩ => ⟨S480x4096, .f32⟩
  | .hbm, ⟨4, _⟩ => ⟨S_, .i32⟩
  | .hbm, ⟨5, _⟩ => ⟨S_, .f32⟩
  | .hbm, ⟨6, _⟩ => ⟨S512x4096, .f32⟩
  | .hbm, ⟨7, _⟩ => ⟨S512x4096, .bf16⟩
  | .hbm, ⟨8, _⟩ => ⟨S16896x4096, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![33, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16896x512 : Shape := ⟨2, ![16896, 512]⟩
abbrev S2x480x4096 : Shape := ⟨3, ![2, 480, 4096]⟩
abbrev S16896x480 : Shape := ⟨2, ![16896, 480]⟩
abbrev S1x480x4096 : Shape := ⟨3, ![1, 480, 4096]⟩
abbrev S480x4096 : Shape := ⟨2, ![480, 4096]⟩
abbrev S16896x4096 : Shape := ⟨2, ![16896, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S2x480x4096, .f32⟩
  | .hbm, ⟨2, _⟩ => ⟨S16896x480, .bf16⟩
  | .hbm, ⟨3, _⟩ => ⟨S16896x480, .f32⟩
  | .hbm, ⟨4, _⟩ => ⟨S1x480x4096, .f32⟩
  | .hbm, ⟨5, _⟩ => ⟨S480x4096, .f32⟩
  | .hbm, ⟨6, _⟩ => ⟨S16896x4096, .f32⟩
  | .hbm, ⟨7, _⟩ => ⟨S16896x4096, .bf16⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S16896x4096 : Shape := ⟨2, ![16896, 4096]⟩
abbrev S1x1x4096 : Shape := ⟨3, ![1, 1, 4096]⟩
abbrev S3x8x4096 : Shape := ⟨3, ![3, 8, 4096]⟩
abbrev S256x4096 : Shape := ⟨2, ![256, 4096]⟩
abbrev S1x8x4096 : Shape := ⟨3, ![1, 8, 4096]⟩
abbrev S1x4096 : Shape := ⟨2, ![1, 4096]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S16896x4096, .f32⟩
  | .hbm, ⟨1, _⟩ => ⟨S16896x4096, .bf16⟩
  | .hbm, ⟨2, _⟩ => ⟨S1x1x4096, .f32⟩
  | .hbm, ⟨3, _⟩ => ⟨S3x8x4096, .f32⟩
  | .hbm, ⟨4, _⟩ => ⟨S1x1x4096, .f32⟩
  | .hbm, ⟨5, _⟩ => ⟨S3x8x4096, .f32⟩
  | .hbm, ⟨6, _⟩ => ⟨S16896x4096, .f32⟩
  | .hbm, ⟨7, _⟩ => ⟨S16896x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x1x4096, .f32⟩
  | .local _ .vmem, ⟨5, _⟩ => ⟨S1x8x4096, .f32⟩
  | .local _ .vmem, ⟨6, _⟩ => ⟨S1x8x4096, .f32⟩
  | .local _ .vmem, ⟨7, _⟩ => ⟨S1x1x4096, .f32⟩
  | .local _ .vmem, ⟨8, _⟩ => ⟨S1x8x4096, .f32⟩
  | .local _ .vmem, ⟨9, _⟩ => ⟨S1x8x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S16896x4096 : Shape := ⟨2, ![16896, 4096]⟩
abbrev S1x1x4096 : Shape := ⟨3, ![1, 1, 4096]⟩
abbrev S3x8x4096 : Shape := ⟨3, ![3, 8, 4096]⟩
abbrev S4096 : Shape := ⟨1, ![4096]⟩
abbrev S8192x4096 : Shape := ⟨2, ![8192, 4096]⟩
abbrev S512x4096 : Shape := ⟨2, ![512, 4096]⟩
abbrev S1x4096 : Shape := ⟨2, ![1, 4096]⟩
abbrev S_ : Shape := ⟨0, ![]⟩
abbrev S16896 : Shape := ⟨1, ![16896]⟩
abbrev S16896x1 : Shape := ⟨2, ![16896, 1]⟩

abbrev nBuf : Space → Nat
  | .hbm => 76
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .bf16⟩
  | .hbm, ⟨2, _⟩ => ⟨S1x1x4096, .f32⟩
  | .hbm, ⟨3, _⟩ => ⟨S3x8x4096, .f32⟩
  | .hbm, ⟨4, _⟩ => ⟨S1x1x4096, .f32⟩
  | .hbm, ⟨5, _⟩ => ⟨S3x8x4096, .f32⟩
  | .hbm, ⟨6, _⟩ => ⟨S1x1x4096, .f32⟩
  | .hbm, ⟨7, _⟩ => ⟨S4096, .f32⟩
  | .hbm, ⟨8, _⟩ => ⟨S8192x4096, .f32⟩
  | .hbm, ⟨9, _⟩ => ⟨S1x1x4096, .f32⟩
  | .hbm, ⟨10, _⟩ => ⟨S4096, .f32⟩
  | .hbm, ⟨11, _⟩ => ⟨S8192x4096, .f32⟩
  | .hbm, ⟨12, _⟩ => ⟨S1x1x4096, .f32⟩
  | .hbm, ⟨13, _⟩ => ⟨S4096, .f32⟩
  | .hbm, ⟨14, _⟩ => ⟨S512x4096, .f32⟩
  | .hbm, ⟨15, _⟩ => ⟨S16896x4096, .f32⟩
  | .hbm, ⟨16, _⟩ => ⟨S16896x4096, .f32⟩
  | .hbm, ⟨17, _⟩ => ⟨S1x4096, .f32⟩
  | .hbm, ⟨18, _⟩ => ⟨S16896x4096, .f32⟩
  | .hbm, ⟨19, _⟩ => ⟨S_, .f32⟩
  | .hbm, ⟨20, _⟩ => ⟨S16896, .f32⟩
  | .hbm, ⟨21, _⟩ => ⟨S16896x1, .f32⟩
  | .hbm, ⟨22, _⟩ => ⟨S_, .f32⟩
  | .hbm, ⟨23, _⟩ => ⟨S16896x1, .f32⟩
  | .hbm, ⟨24, _⟩ => ⟨S16896x1, .f32⟩
  | .hbm, ⟨25, _⟩ => ⟨S_, .f32⟩
  | .hbm, ⟨26, _⟩ => ⟨S16896x1, .f32⟩
  | .hbm, ⟨27, _⟩ => ⟨S16896x1, .f32⟩
  | .hbm, ⟨28, _⟩ => ⟨S16896x1, .f32⟩
  | .hbm, ⟨29, _⟩ => ⟨S16896x4096, .f32⟩
  | .hbm, ⟨30, _⟩ => ⟨S16896x4096, .f32⟩
  | .hbm, ⟨31, _⟩ => ⟨S16896x4096, .f32⟩
  | .hbm, ⟨32, _⟩ => ⟨S16896x4096, .f32⟩
  | .hbm, ⟨33, _⟩ => ⟨S16896x4096, .f32⟩
  | .hbm, ⟨34, _⟩ => ⟨S16896x4096, .f32⟩
  | .hbm, ⟨35, _⟩ => ⟨S1x4096, .f32⟩
  | .hbm, ⟨36, _⟩ => ⟨S16896x4096, .f32⟩
  | .hbm, ⟨37, _⟩ => ⟨S_, .f32⟩
  | .hbm, ⟨38, _⟩ => ⟨S16896, .f32⟩
  | .hbm, ⟨39, _⟩ => ⟨S16896x1, .f32⟩
  | .hbm, ⟨40, _⟩ => ⟨S_, .f32⟩
  | .hbm, ⟨41, _⟩ => ⟨S16896x1, .f32⟩
  | .hbm, ⟨42, _⟩ => ⟨S16896x1, .f32⟩
  | .hbm, ⟨43, _⟩ => ⟨S_, .f32⟩
  | .hbm, ⟨44, _⟩ => ⟨S16896x1, .f32⟩
  | .hbm, ⟨45, _⟩ => ⟨S16896x1, .f32⟩
  | .hbm, ⟨46, _⟩ => ⟨S16896x1, .f32⟩
  | .hbm, ⟨47, _⟩ => ⟨S16896x4096, .f32⟩
  | .hbm, ⟨48, _⟩ => ⟨S16896x4096, .f32⟩
  | .hbm, ⟨49, _⟩ => ⟨S16896x4096, .f32⟩
  | .hbm, ⟨50, _⟩ => ⟨S16896x4096, .f32⟩
  | .hbm, ⟨51, _⟩ => ⟨S1x1x4096, .f32⟩
  | .hbm, ⟨52, _⟩ => ⟨S4096, .f32⟩
  | .hbm, ⟨53, _⟩ => ⟨S8192x4096, .f32⟩
  | .hbm, ⟨54, _⟩ => ⟨S1x1x4096, .f32⟩
  | .hbm, ⟨55, _⟩ => ⟨S4096, .f32⟩
  | .hbm, ⟨56, _⟩ => ⟨S8192x4096, .f32⟩
  | .hbm, ⟨57, _⟩ => ⟨S1x1x4096, .f32⟩
  | .hbm, ⟨58, _⟩ => ⟨S4096, .f32⟩
  | .hbm, ⟨59, _⟩ => ⟨S512x4096, .f32⟩
  | .hbm, ⟨60, _⟩ => ⟨S16896x4096, .f32⟩
  | .hbm, ⟨61, _⟩ => ⟨S_, .f32⟩
  | .hbm, ⟨62, _⟩ => ⟨S16896x4096, .f32⟩
  | .hbm, ⟨63, _⟩ => ⟨S16896x4096, .f32⟩
  | .hbm, ⟨64, _⟩ => ⟨S16896x4096, .f32⟩
  | .hbm, ⟨65, _⟩ => ⟨S1x1x4096, .f32⟩
  | .hbm, ⟨66, _⟩ => ⟨S4096, .f32⟩
  | .hbm, ⟨67, _⟩ => ⟨S8192x4096, .f32⟩
  | .hbm, ⟨68, _⟩ => ⟨S1x1x4096, .f32⟩
  | .hbm, ⟨69, _⟩ => ⟨S4096, .f32⟩
  | .hbm, ⟨70, _⟩ => ⟨S8192x4096, .f32⟩
  | .hbm, ⟨71, _⟩ => ⟨S1x1x4096, .f32⟩
  | .hbm, ⟨72, _⟩ => ⟨S4096, .f32⟩
  | .hbm, ⟨73, _⟩ => ⟨S512x4096, .f32⟩
  | .hbm, ⟨74, _⟩ => ⟨S16896x4096, .f32⟩
  | .hbm, ⟨75, _⟩ => ⟨S16896x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== Kernel13.lean ====
abbrev S8x4096 : Shape := ⟨2, ![8, 4096]⟩
abbrev S4x4096x512 : Shape := ⟨3, ![4, 4096, 512]⟩
abbrev S8x512 : Shape := ⟨2, ![8, 512]⟩
abbrev S1x4096x512 : Shape := ⟨3, ![1, 4096, 512]⟩
abbrev S4096x512 : Shape := ⟨2, ![4096, 512]⟩

abbrev nBuf : Space → Nat
  | .hbm => 3
  | .vmem => 3
  | .smem => 0
  | _ => 0

abbrev bufTy : (tb : Table) → Fin (tcTables nBuf tb) → BufTy
  | .hbm, ⟨0, _⟩ => ⟨S8x4096, .f32⟩
  | .hbm, ⟨1, _⟩ => ⟨S4x4096x512, .f32⟩
  | .hbm, ⟨2, _⟩ => ⟨S8x512, .f32⟩
  | .local _ .vmem, ⟨0, _⟩ => ⟨S8x4096, .f32⟩
  | .local _ .vmem, ⟨1, _⟩ => ⟨S1x4096x512, .f32⟩
  | .local _ .vmem, ⟨2, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8x4096 : Shape := ⟨2, ![8, 4096]⟩
abbrev S4x4096x512 : Shape := ⟨3, ![4, 4096, 512]⟩
abbrev S1x4096x512 : Shape := ⟨3, ![1, 4096, 512]⟩
abbrev S4096x512 : Shape := ⟨2, ![4096, 512]⟩
abbrev S8x512 : Shape := ⟨2, ![8, 512]⟩

abbrev nBuf : Space → Nat
  | .hbm => 5
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x512, .f32⟩
  | .hbm, ⟨2, _⟩ => ⟨S1x4096x512, .f32⟩
  | .hbm, ⟨3, _⟩ => ⟨S4096x512, .f32⟩
  | .hbm, ⟨4, _⟩ => ⟨S8x512, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8x512 : Shape := ⟨2, ![8, 512]⟩
abbrev S4x512x24576 : Shape := ⟨3, ![4, 512, 24576]⟩
abbrev S8x24576 : Shape := ⟨2, ![8, 24576]⟩
abbrev S1x512x2048 : Shape := ⟨3, ![1, 512, 2048]⟩
abbrev S8x2048 : Shape := ⟨2, ![8, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x512, .f32⟩
  | .hbm, ⟨1, _⟩ => ⟨S4x512x24576, .f32⟩
  | .hbm, ⟨2, _⟩ => ⟨S8x24576, .f32⟩
  | .local _ .vmem, ⟨0, _⟩ => ⟨S8x512, .f32⟩
  | .local _ .vmem, ⟨1, _⟩ => ⟨S1x512x2048, .f32⟩
  | .local _ .vmem, ⟨2, _⟩ => ⟨S1x512x2048, .f32⟩
  | .local _ .vmem, ⟨3, _⟩ => ⟨S8x2048, .f32⟩
  | .local _ .vmem, ⟨4, _⟩ => ⟨S8x2048, .f32⟩
  | _, _ => ⟨S8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8x512 : Shape := ⟨2, ![8, 512]⟩
abbrev S4x512x24576 : Shape := ⟨3, ![4, 512, 24576]⟩
abbrev S1x512x24576 : Shape := ⟨3, ![1, 512, 24576]⟩
abbrev S512x24576 : Shape := ⟨2, ![512, 24576]⟩
abbrev S8x24576 : Shape := ⟨2, ![8, 24576]⟩

abbrev nBuf : Space → Nat
  | .hbm => 5
  | .vmem => 0
  | .smem => 0
  | _ => 0

abbrev bufTy : (tb : Table) → Fin (tcTables nBuf tb) → BufTy
  | .hbm, ⟨0, _⟩ => ⟨S8x512, .f32⟩
  | .hbm, ⟨1, _⟩ => ⟨S4x512x24576, .f32⟩
  | .hbm, ⟨2, _⟩ => ⟨S1x512x24576, .f32⟩
  | .hbm, ⟨3, _⟩ => ⟨S512x24576, .f32⟩
  | .hbm, ⟨4, _⟩ => ⟨S8x24576, .f32⟩
  | _, _ => ⟨S8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Chunk.lean ====
/- The recurrence of one head over one chunk of 64 tokens, over the reals: the chunk's closed form (cumulative decays,
   a unit lower triangular system solved level by level) against the token-by-token recurrence. -/
module

public import Mathlib.Analysis.SpecialFunctions.Exp
public import Mathlib.LinearAlgebra.Matrix.NonsingularInverse
public import Mathlib.Tactic.NoncommRing

@[expose] public section

noncomputable section

namespace Cert.Chunk

open Finset

/-- A head's 64 by 64 array: a chunk's tokens by channels, or the state's rows by its columns. -/
abbrev Mat := Fin 64 → Fin 64 → ℝ

/-- One token's step of the state. -/
def step (S : Mat) (w a b v k : Fin 64 → ℝ) : Mat :=
  fun i n => S i n * w n + (∑ m, S i m * a m) * b n + v i * k n

/-- The state before token `t`. -/
def st (w a b v k : ℕ → Fin 64 → ℝ) (S₀ : Mat) : ℕ → Mat
  | 0 => S₀
  | t + 1 => step (st w a b v k S₀ t) (w t) (a t) (b t) (v t) (k t)

/-- The states after `o` tokens are the states of the tokens from `o` on, started at the state before token `o`. -/
theorem st_add (w a b v k : ℕ → Fin 64 → ℝ) (S₀ : Mat) (o t : ℕ) :
    st w a b v k S₀ (o + t) = st (fun i => w (o + i)) (fun i => a (o + i)) (fun i => b (o + i)) (fun i => v (o + i))
      (fun i => k (o + i)) (st w a b v k S₀ o) t := by
  induction t with
  | zero => rfl
  | succ t ih => rw [← Nat.add_assoc, st, ih, st]

/-- Only the tokens before `t` enter the state before `t`. -/
theorem st_congr {w a b v k w' a' b' v' k' : ℕ → Fin 64 → ℝ} (S₀ : Mat) (t : ℕ) (hw : ∀ s < t, w s = w' s)
    (ha : ∀ s < t, a s = a' s) (hb : ∀ s < t, b s = b' s) (hv : ∀ s < t, v s = v' s) (hk : ∀ s < t, k s = k' s) :
    st w a b v k S₀ t = st w' a' b' v' k' S₀ t := by
  induction t with
  | zero => rfl
  | succ t ih =>
    rw [st, st, ih (fun s h => hw s (by omega)) (fun s h => ha s (by omega)) (fun s h => hb s (by omega))
      (fun s h => hv s (by omega)) (fun s h => hk s (by omega)), hw t (by omega), ha t (by omega), hb t (by omega),
      hv t (by omega), hk t (by omega)]

/-- The log decay of the tokens before `t`. -/
def clx (lw : ℕ → Fin 64 → ℝ) (t : ℕ) (n : Fin 64) : ℝ := ∑ s ∈ range t, lw s n

/-- The state before token `t`, unrolled. -/
theorem st_closed (lw a b v k : ℕ → Fin 64 → ℝ) (S₀ : Mat) (t : ℕ) (i n : Fin 64) :
    st (fun s n => Real.exp (lw s n)) a b v k S₀ t i n
      = Real.exp (clx lw t n) * (S₀ i n + ∑ s ∈ range t,
          ((∑ m, st (fun s n => Real.exp (lw s n)) a b v k S₀ s i m * a s m) * (b s n * Real.exp (-clx lw (s + 1) n))
            + v s i * (k s n * Real.exp (-clx lw (s + 1) n)))) := by
  induction t with
  | zero => simp [st, clx]
  | succ t ih =>
    have hc : clx lw (t + 1) n = clx lw t n + lw t n := sum_range_succ _ _
    have he : Real.exp (clx lw (t + 1) n) * Real.exp (-clx lw (t + 1) n) = 1 := by
      rw [← Real.exp_add, add_neg_cancel, Real.exp_zero]
    rw [st, step, ih, sum_range_succ]
    generalize (∑ m, st (fun s n => Real.exp (lw s n)) a b v k S₀ t i m * a t m) = U
    generalize (∑ s ∈ range t, ((∑ m, st (fun s n => Real.exp (lw s n)) a b v k S₀ s i m * a s m)
      * (b s n * Real.exp (-clx lw (s + 1) n)) + v s i * (k s n * Real.exp (-clx lw (s + 1) n)))) = X
    have h1 : Real.exp (clx lw t n) * Real.exp (lw t n) = Real.exp (clx lw (t + 1) n) := by rw [hc, Real.exp_add]
    rw [← h1] at he ⊢
    generalize Real.exp (-clx lw (t + 1) n) = z at he ⊢
    linear_combination (-(U * b t n) - v t i * k t n) * he

/-- A masked sum over a chunk's tokens is the sum over the tokens before `t`. -/
theorem sum_mask (g : ℕ → ℝ) (t : ℕ) (ht : t ≤ 64) :
    ∑ s : Fin 64, (if s.val < t then g s.val else 0) = ∑ s ∈ range t, g s := by
  rw [Fin.sum_univ_eq_sum_range (fun s => if s < t then g s else 0) 64, ← sum_filter]
  exact sum_congr (by ext s; simp only [mem_filter, mem_range]; omega) fun _ _ => rfl

/-- Rows against rows. -/
def nt (X Y : Mat) : Mat := fun t s => ∑ n, X t n * Y s n
/-- Rows against columns. -/
def nn (X Y : Mat) : Mat := fun t s => ∑ n, X t n * Y n s

/-- Rows against columns is the product of matrices. -/
theorem of_nn (X Y : Mat) : Matrix.of (nn X Y) = Matrix.of X * Matrix.of Y := rfl

/-- Level `l` of a strictly lower array: the entries whose row and column lie in one block of `2 ^ (l + 1)` tokens but
    in different blocks of `2 ^ l`. -/
def level (l : ℕ) (M : Mat) : Mat :=
  fun t s => if t.val >>> (l + 1) = s.val >>> (l + 1) ∧ t.val >>> l ≠ s.val >>> l then M t s else 0

/-- The levels' inverse of one minus `M`, up to level `l`. -/
def tinv (M : Mat) : ℕ → Mat
  | 0 => fun t s => (if t = s then 1 else 0) + level 0 M t s
  | l + 1 => fun t s => tinv M l t s + nn (nn (tinv M l) (level (l + 1) M)) (tinv M l) t s

/-- The levels up to `l`. -/
def upto (M : Mat) : ℕ → Mat
  | 0 => level 0 M
  | l + 1 => fun t s => upto M l t s + level (l + 1) M t s

theorem shr_succ (t l : ℕ) : t >>> (l + 1) = (t >>> l) / 2 := by
  rw [Nat.shiftRight_succ]

/-- The inverse up to level `l` joins only tokens of one block of `2 ^ (l + 1)`. -/
theorem tinv_support (M : Mat) (l : ℕ) (t s : Fin 64) (h : t.val >>> (l + 1) ≠ s.val >>> (l + 1)) : tinv M l t s = 0 := by
  induction l generalizing t s with
  | zero =>
    have hne : t ≠ s := fun e => h (e ▸ rfl)
    show (if t = s then 1 else 0) + level 0 M t s = 0
    rw [if_neg hne, level, if_neg (fun c => h c.1), add_zero]
  | succ l ih =>
    have h' : ∀ a b : Fin 64, a.val >>> (l + 1 + 1) ≠ b.val >>> (l + 1 + 1) → tinv M l a b = 0 := fun a b hab =>
      ih a b fun e => hab (by rw [shr_succ _ (l + 1), shr_succ _ (l + 1), e])
    show tinv M l t s + nn (nn (tinv M l) (level (l + 1) M)) (tinv M l) t s = 0
    rw [h' t s h, zero_add, nn]
    refine sum_eq_zero fun j _ => ?_
    by_cases hj : j.val >>> (l + 1 + 1) = s.val >>> (l + 1 + 1)
    · rw [nn, sum_eq_zero, zero_mul]
      intro i _
      by_cases hi : t.val >>> (l + 1 + 1) = i.val >>> (l + 1 + 1)
      · rw [level, if_neg, mul_zero]
        exact fun c => h (hi.trans (c.1.trans hj))
      · rw [h' t i hi, zero_mul]
    · rw [h' j s hj, mul_zero]

/-- A level of a strictly lower array cannot follow itself through a block of the level below. -/
theorem level_tinv_level (M : Mat) (hM : ∀ t s : Fin 64, t ≤ s → M t s = 0) (l : ℕ) :
    nn (nn (level (l + 1) M) (tinv M l)) (level (l + 1) M) = fun _ _ => 0 := by
  have hup : ∀ t s : Fin 64, level (l + 1) M t s ≠ 0 → t.val >>> (l + 1) = s.val >>> (l + 1) + 1 ∧ (s.val >>> (l + 1)) % 2 = 0 := by
    intro t s h
    rw [level] at h
    split at h
    · rename_i c
      have hst : s.val < t.val := by
        by_contra hc
        exact h (hM t s (Fin.le_def.2 (by omega)))
      have hle : s.val >>> (l + 1) ≤ t.val >>> (l + 1) := by
        rw [Nat.shiftRight_eq_div_pow, Nat.shiftRight_eq_div_pow]; exact Nat.div_le_div_right hst.le
      have h1 := c.1
      rw [shr_succ _ (l + 1), shr_succ _ (l + 1)] at h1
      have h2 := c.2
      omega
    · exact absurd rfl h
  ext t s
  rw [nn]
  refine sum_eq_zero fun j _ => ?_
  by_cases hj : level (l + 1) M j s = 0
  · rw [hj, mul_zero]
  rw [nn, sum_eq_zero, zero_mul]
  intro i _
  by_cases hi : level (l + 1) M t i = 0
  · rw [hi, zero_mul]
  rw [tinv_support M l i j, mul_zero]
  have := hup t i hi
  have := hup j s hj
  omega

/-- The bottom level cannot follow itself. -/
theorem level_level (M : Mat) (hM : ∀ t s : Fin 64, t ≤ s → M t s = 0) : nn (level 0 M) (level 0 M) = fun _ _ => 0 := by
  ext t s
  refine sum_eq_zero fun j _ => ?_
  rw [level, level]
  by_cases c1 : t ≤ j
  · rw [hM t j c1, ite_self, zero_mul]
  by_cases c2 : j ≤ s
  · rw [hM j s c2, ite_self, mul_zero]
  rw [Fin.le_def] at c1 c2
  have e : ∀ x : ℕ, x >>> (0 + 1) = x / 2 := fun x => rfl
  by_cases d : j.val >>> (0 + 1) = s.val >>> (0 + 1)
  · rw [if_neg, zero_mul]
    intro c
    have := c.1; rw [e, e] at this d; omega
  · rw [if_neg (c := _ ∧ j.val >>> 0 ≠ s.val >>> 0) (fun c => d c.1), mul_zero]

theorem of_tinv_zero (M : Mat) : Matrix.of (tinv M 0) = 1 + Matrix.of (level 0 M) := by
  ext t s; rw [Matrix.add_apply, Matrix.one_apply]; rfl

theorem of_zero : Matrix.of (fun _ _ => 0 : Mat) = 0 := rfl

theorem of_add (X Y : Mat) : Matrix.of (fun t s => X t s + Y t s) = Matrix.of X + Matrix.of Y := rfl

theorem tinv_mul (M : Mat) (hM : ∀ t s : Fin 64, t ≤ s → M t s = 0) (l : ℕ) :
    Matrix.of (tinv M l) * (1 - Matrix.of (upto M l)) = 1 := by
  induction l with
  | zero =>
    have h0 := congrArg Matrix.of (level_level M hM)
    rw [of_nn, of_zero] at h0
    rw [of_tinv_zero, upto]
    generalize Matrix.of (level 0 M) = L at *
    have : (1 + L) * (1 - L) = 1 - L * L := by noncomm_ring
    rw [this, h0, sub_zero]
  | succ l ih =>
    have h0 := congrArg Matrix.of (level_tinv_level M hM l)
    rw [of_nn, of_nn, of_zero] at h0
    rw [tinv, upto, of_add, of_add, of_nn, of_nn]
    generalize Matrix.of (tinv M l) = T at *
    generalize Matrix.of (upto M l) = D at *
    generalize Matrix.of (level (l + 1) M) = L at *
    have h1 : T * D = T - 1 := by rw [mul_sub, mul_one] at ih; rw [← ih]; abel
    calc (T + T * L * T) * (1 - (D + L)) = (T - T * D) - T * L + T * L * (T - T * D) - T * (L * T * L) := by noncomm_ring
      _ = 1 := by rw [h0, h1]; noncomm_ring

/-- The six levels of 64 tokens are all of a strictly lower array. -/
theorem upto_five (M : Mat) (hM : ∀ t s : Fin 64, t ≤ s → M t s = 0) : upto M 5 = M := by
  ext t s
  simp only [upto, level]
  by_cases h : t ≤ s
  · simp only [hM t s h, ite_self, add_zero]
  · rw [Fin.le_def] at h
    have e : ∀ l : ℕ, t.val >>> (l + 1) = (t.val >>> l) / 2 ∧ s.val >>> (l + 1) = (s.val >>> l) / 2 := fun l => ⟨rfl, rfl⟩
    have e0 : t.val >>> 0 = t.val ∧ s.val >>> 0 = s.val := ⟨rfl, rfl⟩
    have e6 : t.val >>> 6 = 0 ∧ s.val >>> 6 = 0 := by
      constructor
      · rw [Nat.shiftRight_eq_div_pow]; exact Nat.div_eq_of_lt t.isLt
      · rw [Nat.shiftRight_eq_div_pow]; exact Nat.div_eq_of_lt s.isLt
    have l0 := e 0; have l1 := e 1; have l2 := e 2; have l3 := e 3; have l4 := e 4; have l5 := e 5
    simp only [Nat.reduceAdd, zero_add] at *
    generalize t.val >>> 0 = t0 at *; generalize s.val >>> 0 = s0 at *
    generalize t.val >>> 1 = t1 at *; generalize s.val >>> 1 = s1 at *
    generalize t.val >>> 2 = t2 at *; generalize s.val >>> 2 = s2 at *
    generalize t.val >>> 3 = t3 at *; generalize s.val >>> 3 = s3 at *
    generalize t.val >>> 4 = t4 at *; generalize s.val >>> 4 = s4 at *
    generalize t.val >>> 5 = t5 at *; generalize s.val >>> 5 = s5 at *
    generalize t.val >>> 6 = t6 at *; generalize s.val >>> 6 = s6 at *
    have hne : t0 ≠ s0 := by omega
    by_cases q1 : t1 = s1
    · have q2 : t2 = s2 := by omega
      have q3 : t3 = s3 := by omega
      have q4 : t4 = s4 := by omega
      have q5 : t5 = s5 := by omega
      have q6 : t6 = s6 := by omega
      simp [q1, q2, q3, q4, q5, q6, hne]
    by_cases q2 : t2 = s2
    · have q3 : t3 = s3 := by omega
      have q4 : t4 = s4 := by omega
      have q5 : t5 = s5 := by omega
      have q6 : t6 = s6 := by omega
      simp [q1, q2, q3, q4, q5, q6]
    by_cases q3 : t3 = s3
    · have q4 : t4 = s4 := by omega
      have q5 : t5 = s5 := by omega
      have q6 : t6 = s6 := by omega
      simp [q1, q2, q3, q4, q5, q6]
    by_cases q4 : t4 = s4
    · have q5 : t5 = s5 := by omega
      have q6 : t6 = s6 := by omega
      simp [q1, q2, q3, q4, q5, q6]
    by_cases q5 : t5 = s5
    · have q6 : t6 = s6 := by omega
      simp [q1, q2, q3, q4, q5, q6]
    have q6 : t6 = s6 := by omega
    simp [q1, q2, q3, q4, q5, q6]

/-- The solved chunk: a strictly lower system's solution is the levels' inverse applied to its right side. -/
theorem solve {M : Mat} (hM : ∀ t s : Fin 64, t ≤ s → M t s = 0) {u f : Mat} (h : ∀ t s, u t s = nn M u t s + f t s) :
    u = nn (tinv M 5) f := by
  have h1 := tinv_mul M hM 5
  rw [upto_five M hM] at h1
  have h2 : (1 - Matrix.of M) * Matrix.of u = Matrix.of f := by
    rw [sub_mul, one_mul, sub_eq_iff_eq_add', ← of_nn, ← of_add]
    exact congrArg Matrix.of (funext fun t => funext fun s => h t s)
  apply Matrix.of.injective
  rw [of_nn, ← h2, ← Matrix.mul_assoc, h1, Matrix.one_mul]

/-! ### The chunk's closed form -/

section Form

/-- A head's chunk: read-out, key, value, normalised key, in-context rate, log decay (tokens by channels), the channel's
    key scale, and the state before the chunk (rows by channels). -/
structure In where
  r : Mat
  k : Mat
  v : Mat
  kk : Mat
  g : Mat
  lw : Mat
  ka : Fin 64 → ℝ
  S : Mat

variable (x : In)

/-- The scaled key. -/
def In.kd : Mat := fun t n => x.k t n * (1 + (x.g t n - 1) * x.ka n)
/-- The write direction. -/
def In.b : Mat := fun t n => x.kk t n * x.g t n
/-- The cumulative log decay, the token's own with it. -/
def In.cl : Mat := fun t n => ∑ s, if s ≤ t then x.lw s n else 0
/-- The chunk's whole log decay. -/
def In.tot (n : Fin 64) : ℝ := x.cl 63 n
def In.A : Mat := fun t n => -x.kk t n * Real.exp (x.cl t n - x.lw t n)
def In.R : Mat := fun t n => x.r t n * Real.exp (x.cl t n)
def In.bt : Mat := fun t n => x.b t n * Real.exp (-x.cl t n)
def In.kt : Mat := fun t n => x.kd t n * Real.exp (-x.cl t n)
/-- An array's part strictly before, and up to, the row's token. -/
def strict (M : Mat) : Mat := fun t s => if s < t then M t s else 0
def incl (M : Mat) : Mat := fun t s => if s ≤ t then M t s else 0
def In.M : Mat := strict (nt x.A x.bt)
/-- What the solved system is given: the state's own term and the values before. -/
def In.f : Mat := fun t i => nt x.A x.S t i + nn (strict (nt x.A x.kt)) x.v t i
def In.u : Mat := nn (tinv x.M 5) x.f
/-- The chunk's result. -/
def In.y : Mat := fun t i => nt x.R x.S t i + nn (incl (nt x.R x.bt)) x.u t i + nn (incl (nt x.R x.kt)) x.v t i
/-- The state after the chunk. -/
def In.S' : Mat := fun i n => x.S i n * Real.exp (x.tot n)
  + ((∑ s, x.u s i * (x.b s n * Real.exp (x.tot n - x.cl s n))) + ∑ s, x.v s i * (x.kd s n * Real.exp (x.tot n - x.cl s n)))

end Form

/-- A chunk's input off the sequences of its tokens' inputs. -/
def ofSeq (r k v kk g lw : ℕ → Fin 64 → ℝ) (ka : Fin 64 → ℝ) (S : Mat) : In :=
  ⟨fun t => r t, fun t => k t, fun t => v t, fun t => kk t, fun t => g t, fun t => lw t, ka, S⟩

section Seq

variable (r k v kk g lw : ℕ → Fin 64 → ℝ) (ka : Fin 64 → ℝ) (S : Mat)

/-- The states of the recurrence from the layer's inputs. -/
def state (k v kk g lw : ℕ → Fin 64 → ℝ) (ka : Fin 64 → ℝ) (S : Mat) (t : ℕ) : Mat :=
  st (fun s n => Real.exp (lw s n)) (fun s n => -kk s n) (fun s n => kk s n * g s n) v
    (fun s n => k s n * (1 + (g s n - 1) * ka n)) S t

theorem cl_eq (t n : Fin 64) : (ofSeq r k v kk g lw ka S).cl t n = clx lw (t.val + 1) n := by
  rw [clx, ← sum_mask (fun s => lw s n) (t.val + 1) (by omega), In.cl]
  refine sum_congr rfl fun s _ => ?_
  simp only [ofSeq, Fin.le_def, Nat.lt_succ_iff]

/-- The state's removal term. -/
def rem (t i : Fin 64) : ℝ := ∑ m, state k v kk g lw ka S t.val i m * -kk t.val m

theorem state_closed (t : ℕ) (ht : t ≤ 64) (i n : Fin 64) :
    state k v kk g lw ka S t i n = Real.exp (clx lw t n) * (S i n + ∑ s : Fin 64, if s.val < t then
      (rem k v kk g lw ka S s i * (ofSeq r k v kk g lw ka S).bt s n + v s.val i * (ofSeq r k v kk g lw ka S).kt s n) else 0) := by
  rw [state, st_closed, ← sum_mask _ t ht]
  congr 2
  refine sum_congr rfl fun s _ => ?_
  simp only [In.bt, In.kt, cl_eq]
  rfl

/-- A row against the state before token `t`, with the decay up to `t` moved onto the row. -/
theorem row_state (t : ℕ) (ht : t ≤ 64) (i : Fin 64) (q : Fin 64 → ℝ) :
    ∑ n, state k v kk g lw ka S t i n * q n
      = ∑ n, (q n * Real.exp (clx lw t n)) * S i n
        + ∑ s : Fin 64, (if s.val < t then ∑ n, (q n * Real.exp (clx lw t n)) * (ofSeq r k v kk g lw ka S).bt s n else 0)
            * rem k v kk g lw ka S s i
        + ∑ s : Fin 64, (if s.val < t then ∑ n, (q n * Real.exp (clx lw t n)) * (ofSeq r k v kk g lw ka S).kt s n else 0)
            * v s.val i := by
  have h : ∀ n, state k v kk g lw ka S t i n * q n = (q n * Real.exp (clx lw t n)) * S i n
      + ∑ s : Fin 64, ((if s.val < t then (q n * Real.exp (clx lw t n)) * (ofSeq r k v kk g lw ka S).bt s n else 0)
            * rem k v kk g lw ka S s i
        + (if s.val < t then (q n * Real.exp (clx lw t n)) * (ofSeq r k v kk g lw ka S).kt s n else 0) * v s.val i) := by
    intro n
    rw [state_closed r k v kk g lw ka S t ht, mul_comm _ (q n), ← mul_assoc, mul_add, mul_sum]
    congr 1
    refine sum_congr rfl fun s _ => ?_
    split
    · ring
    · ring
  rw [sum_congr rfl fun n _ => h n, sum_add_distrib, sum_comm, add_assoc]
  congr 1
  rw [← sum_add_distrib]
  refine sum_congr rfl fun s _ => ?_
  rw [sum_add_distrib, ← sum_mul, ← sum_mul]
  split
  · rfl
  · simp only [sum_const_zero]

/-- The solved system's solution is the recurrence's removal terms. -/
theorem u_eq : (ofSeq r k v kk g lw ka S).u = rem k v kk g lw ka S := by
  symm
  refine solve (M := (ofSeq r k v kk g lw ka S).M) (f := (ofSeq r k v kk g lw ka S).f) (fun t s h => if_neg (not_lt.2 h)) fun t i => ?_
  have hA : ∀ n, -kk t.val n * Real.exp (clx lw t.val n) = (ofSeq r k v kk g lw ka S).A t n := by
    intro n
    simp only [In.A, cl_eq]
    congr 2
    rw [clx, clx, sum_range_succ]
    simp only [ofSeq, add_sub_cancel_right]
  rw [rem, row_state r k v kk g lw ka S t.val (by omega)]
  simp only [hA]
  rw [In.f]
  simp only [In.M, strict, nt, nn, Fin.lt_def]
  simp only [ofSeq]
  ring

/-- The chunk's result is the recurrence's. -/
theorem y_eq (t i : Fin 64) :
    (ofSeq r k v kk g lw ka S).y t i = ∑ n, state k v kk g lw ka S (t.val + 1) i n * r t.val n := by
  have hR : ∀ n, r t.val n * Real.exp (clx lw (t.val + 1) n) = (ofSeq r k v kk g lw ka S).R t n := by
    intro n; rw [In.R, cl_eq]; rfl
  rw [row_state r k v kk g lw ka S (t.val + 1) (by omega), In.y, u_eq]
  simp only [hR, incl, nt, nn, Fin.le_def, Nat.lt_succ_iff]
  rfl

/-- The state after the chunk is the recurrence's. -/
theorem S'_eq : (ofSeq r k v kk g lw ka S).S' = state k v kk g lw ka S 64 := by
  ext i n
  have hc : ∀ s : Fin 64, Real.exp ((ofSeq r k v kk g lw ka S).tot n - (ofSeq r k v kk g lw ka S).cl s n)
      = Real.exp (clx lw 64 n) * Real.exp (-(ofSeq r k v kk g lw ka S).cl s n) := by
    intro s; rw [← Real.exp_add, In.tot, cl_eq r k v kk g lw ka S 63]; rfl
  rw [state_closed r k v kk g lw ka S 64 le_rfl, In.S', u_eq]
  simp only [hc, Fin.is_lt, if_true]
  rw [In.tot, cl_eq, mul_add, mul_comm ((ofSeq r k v kk g lw ka S).S i n), sum_add_distrib, mul_add, mul_sum, mul_sum]
  refine congrArg₂ (· + ·) rfl (congrArg₂ (· + ·) ?_ ?_)
  · refine sum_congr rfl fun s _ => ?_
    simp only [In.bt]; ring
  · refine sum_congr rfl fun s _ => ?_
    simp only [In.kt, ofSeq]; ring

end Seq

end Cert.Chunk

end
-- ==== Proof.Spec.lean ====
/- What both programs compute: the recurrence of every batch and head over the context's tokens and then the latent
   ones, as a function of the seven argument arrays. -/
module

public import proofs.«01_k».proof.Proof.Chunk
public import Idealize.ShloMosaic.Lib.IdealHost
public import Idealize.ShloMosaic.Lib.Pointwise.Contract

@[expose] public section

noncomputable section

namespace Cert.Spec

open Idealize.ShloMosaic Cert.Chunk

abbrev SA : Shape := ⟨2, ![16896, 4096]⟩
abbrev SK : Shape := ⟨2, ![1, 4096]⟩

/-- The row of token `τ` of batch `b`: the context's 256 tokens lie after the latent tokens of both batches. -/
def row (b τ : ℕ) : ℕ := if τ < 256 then 16384 + 256 * b + τ else 8192 * b + (τ - 256)

/-- An entry of an array as a real number. -/
def rd (x : SA.Idx → EReal) (r c : ℕ) : ℝ :=
  if h : r < 16896 ∧ c < 4096 then (x (ix2 ⟨r, h.1⟩ ⟨c, h.2⟩)).toReal else 0

def rdk (x : SK.Idx → EReal) (c : ℕ) : ℝ := if h : c < 4096 then (x (ix2 0 ⟨c, h⟩)).toReal else 0

/-- The tokens of batch `b` at head `p`. -/
def sq (x : SA.Idx → EReal) (b p : ℕ) : ℕ → Fin 64 → ℝ := fun τ n => rd x (row b τ) (64 * p + n.val)

def sk (x : SK.Idx → EReal) (p : ℕ) : Fin 64 → ℝ := fun n => rdk x (64 * p + n.val)

/-- The argument arrays. -/
structure Args where
  r : SA.Idx → EReal
  k : SA.Idx → EReal
  v : SA.Idx → EReal
  kk : SA.Idx → EReal
  g : SA.Idx → EReal
  lw : SA.Idx → EReal
  ka : SK.Idx → EReal

/-- Every entry is a real number. -/
structure Args.Real (A : Args) : Prop where
  r : ∀ i, ∃ z : ℝ, A.r i = (z : EReal)
  k : ∀ i, ∃ z : ℝ, A.k i = (z : EReal)
  v : ∀ i, ∃ z : ℝ, A.v i = (z : EReal)
  kk : ∀ i, ∃ z : ℝ, A.kk i = (z : EReal)
  g : ∀ i, ∃ z : ℝ, A.g i = (z : EReal)
  lw : ∀ i, ∃ z : ℝ, A.lw i = (z : EReal)
  ka : ∀ i, ∃ z : ℝ, A.ka i = (z : EReal)

/-- The state of batch `b`, head `p` before token `τ`. -/
def Args.S (A : Args) (b p τ : ℕ) : Mat :=
  state (sq A.k b p) (sq A.v b p) (sq A.kk b p) (sq A.g b p) (sq A.lw b p) (sk A.ka p) (fun _ _ => 0) τ

/-- The result at token `τ`. -/
def Args.y (A : Args) (b p τ : ℕ) (i : Fin 64) : ℝ := ∑ n, A.S b p (τ + 1) i n * sq A.r b p τ n

/-- The batch and the token of a row. -/
def batch (r : ℕ) : ℕ := if r < 16384 then r / 8192 else (r - 16384) / 256
def tok (r : ℕ) : ℕ := if r < 16384 then r % 8192 + 256 else (r - 16384) % 256

/-- The whole result. -/
def Args.out (A : Args) : SA.Idx → EReal := fun j =>
  ((A.y (batch (j 0).val) ((j 1).val / 64) (tok (j 0).val) ⟨(j 1).val % 64, Nat.mod_lt _ (by norm_num)⟩ : ℝ) : EReal)

theorem batch_row {b τ : ℕ} (hb : b < 2) (hτ : τ < 8448) : batch (row b τ) = b := by
  unfold batch row; split_ifs <;> omega

theorem tok_row {b τ : ℕ} (hb : b < 2) (hτ : τ < 8448) : tok (row b τ) = τ := by
  unfold tok row; split_ifs <;> omega

theorem row_tok {r : ℕ} (hr : r < 16896) : row (batch r) (tok r) = r := by
  unfold tok row batch; split_ifs <;> omega

theorem row_lt {b τ : ℕ} (hb : b < 2) (hτ : τ < 8448) : row b τ < 16896 := by unfold row; split_ifs <;> omega
theorem batch_lt {r : ℕ} (hr : r < 16896) : batch r < 2 := by unfold batch; split_ifs <;> omega
theorem tok_lt {r : ℕ} (hr : r < 16896) : tok r < 8448 := by unfold tok; split_ifs <;> omega

/-- A real entry, read. -/
theorem rd_eq {x : SA.Idx → EReal} (hx : ∀ i, ∃ z : ℝ, x i = (z : EReal)) (j : SA.Idx) {r c : ℕ} (hr : (j 0).val = r)
    (hc : (j 1).val = c) : x j = ((rd x r c : ℝ) : EReal) := by
  obtain ⟨z, hz⟩ := hx j
  subst hr hc
  have h : (j 0).val < 16896 ∧ (j 1).val < 4096 := ⟨(j 0).isLt, (j 1).isLt⟩
  have hj : ix2 ⟨(j 0).val, h.1⟩ ⟨(j 1).val, h.2⟩ = j := by funext a; fin_cases a <;> rfl
  unfold rd
  rw [dif_pos h]
  erw [hj]
  rw [hz, EReal.toReal_coe]

theorem rdk_eq {x : SK.Idx → EReal} (hx : ∀ i, ∃ z : ℝ, x i = (z : EReal)) (j : SK.Idx) {c : ℕ}
    (hc : (j 1).val = c) : x j = ((rdk x c : ℝ) : EReal) := by
  obtain ⟨z, hz⟩ := hx j
  subst hc
  have h : (j 1).val < 4096 := (j 1).isLt
  have hj : ix2 0 ⟨(j 1).val, h⟩ = j := by
    funext a; fin_cases a
    · exact Subsingleton.elim (α := Fin 1) _ _
    · rfl
  unfold rdk
  rw [dif_pos h]
  erw [hj]
  rw [hz, EReal.toReal_coe]

theorem sq_eq {x : SA.Idx → EReal} (hx : ∀ i, ∃ z : ℝ, x i = (z : EReal)) (j : SA.Idx) {b p τ : ℕ} {n : Fin 64}
    (hr : (j 0).val = row b τ) (hc : (j 1).val = 64 * p + n.val) : x j = ((sq x b p τ n : ℝ) : EReal) := rd_eq hx j hr hc

theorem sk_eq {x : SK.Idx → EReal} (hx : ∀ i, ∃ z : ℝ, x i = (z : EReal)) (j : SK.Idx) {p : ℕ} {n : Fin 64}
    (hc : (j 1).val = 64 * p + n.val) : x j = ((sk x p n : ℝ) : EReal) := rdk_eq hx j hc

/-- The result at an index, by its batch, token, head and channel. -/
theorem out_eq (A : Args) (j : SA.Idx) {b p τ : ℕ} {i : Fin 64} (hb : b < 2) (hτ : τ < 8448)
    (hr : (j 0).val = row b τ) (hc : (j 1).val = 64 * p + i.val) : A.out j = ((A.y b p τ i : ℝ) : EReal) := by
  have hi := i.isLt
  have e1 : (64 * p + i.val) / 64 = p := by omega
  have e2 : (⟨(64 * p + i.val) % 64, Nat.mod_lt _ (by norm_num)⟩ : Fin 64) = i := Fin.ext (by simp only; omega)
  unfold Args.out
  simp only [hr, hc, batch_row hb hτ, tok_row hb hτ, e1, e2]

end Cert.Spec
-- ==== Proof.Pack.lean ====
/- What the kernel's body computes for one pack of 128 lanes (two heads) of one chunk, as functions of the pack's loads. -/
module

public import proofs.«01_k».proof.Proof.Gen.KernelIdeal.Skeleton

@[expose] public section

noncomputable section

namespace Cert.Pack

open Idealize.ShloMosaic Cert.KernelIdeal Cert.KernelIdeal.Facts Cert.KernelIdeal.Gen

variable {F : FTy → Type} [FloatOps F]

/-- A [64, 128] array with the entries off a mask zeroed. -/
def keep (c : IVec S64x128 1) (x : FVec F S64x128 .f32) : FVec F S64x128 .f32 :=
  select c x (broadcast S64x128 (Scalar.ofBits .f32 0x00000000#32))

/-- The lanes of head `h` of the pack. -/
def lanes (h : BitVec 32) : IVec S64x128 1 := cmpi .eq k0_pay16 (broadcast S64x128 h)

/-- Two stacked [64, 128] arrays. -/
def stack {φ : FTy} (x y : FVec F S64x128 φ) : FVec F S128x128 φ :=
  concatenate S128x128 0 [⟨S64x128, x⟩, ⟨S64x128, y⟩] concatenates_S64x128_S64x128_S128x128_d0

/-- The block diagonal arrangement of a pack's two heads. -/
def bd (x : FVec F S64x128 .f32) : FVec F S128x128 .bf16 :=
  stack (truncf .bf16 (keep (lanes 0#32) x) bitsLt_bf16_f32) (truncf .bf16 (keep (lanes 1#32) x) bitsLt_bf16_f32)

/-- A [64, 128] array against a block diagonal one, rows against columns. -/
def mmBd (x y : FVec F S64x128 .f32) : FVec F S64x128 .f32 :=
  matmul dot_S64x128_S128x128_S64x128_1_0_0_1_n_n none (truncf .bf16 x bitsLt_bf16_f32) (bd y)
    (constant S64x128 .f32 0x00000000#32)

def ntMm (x y : FVec F S128x128 .bf16) : FVec F S128x128 .f32 :=
  matmul dot_S128x128_S128x128_S128x128_1_1_0_0_n_n none x y (constant S128x128 .f32 0x00000000#32)

def nnMm (x y : FVec F S128x128 .bf16) : FVec F S128x128 .f32 :=
  matmul dot_S128x128_S128x128_S128x128_1_0_0_1_n_n none x y (constant S128x128 .f32 0x00000000#32)

def top (x : FVec F S128x128 .f32) : FVec F S64x128 .f32 :=
  extractStridedSlice S64x128 ![0, 0] x slices_S128x128_o0_0_S64x128

def bot (x : FVec F S128x128 .f32) : FVec F S64x128 .f32 :=
  extractStridedSlice S64x128 ![64, 0] x slices_S128x128_o64_0_S64x128

def up (x : FVec F S64x128 .bf16) : FVec F S64x128 .f32 := extf .f32 x bitsLt_bf16_f32

def ones : FVec F S64x128 .f32 := broadcast S64x128 (Scalar.ofBits .f32 0x3F800000#32)
def zeros : FVec F S64x128 .f32 := broadcast S64x128 (Scalar.ofBits .f32 0x00000000#32)

/-- The token of a row, and of a lane. -/
def rowTok : IVec S64x128 32 := iota .tc S64x128 32 [0] iota_S64x128_d0_w32

variable (r k v kk g : FVec F S64x128 .bf16) (lw : FVec F S64x128 .f32) (ka : FVec F S1x128 .f32) (s : FVec F S1x128x128 .f32)

def cl : FVec F S64x128 .f32 :=
  matmul dot_S64x128_S128x128_S64x128_1_0_0_1_n_n none k0_pay3
    (stack (truncf .bf16 lw bitsLt_bf16_f32)
      (truncf .bf16 (subf lw (extf .f32 (truncf .bf16 lw bitsLt_bf16_f32) bitsLt_bf16_f32)) bitsLt_bf16_f32))
    (constant S64x128 .f32 0x00000000#32)

def tot : FVec F S1x128 .f32 := extractStridedSlice S1x128 ![63, 0] (cl lw) slices_S64x128_o63_0_S1x128

def eneg : FVec F S64x128 .f32 := exp (subf zeros (cl lw))

def kd : FVec F S64x128 .f32 :=
  mulf (up k) (addf ones (mulf (subf (up g) ones) (broadcastTo S64x128 ka broadcasts_S1x128_S64x128)))

def bq : FVec F S64x128 .f32 := mulf (up kk) (up g)

def lhs : FVec F S128x128 .bf16 :=
  truncf .bf16 (stack (mulf (subf zeros (up kk)) (exp (subf (cl lw) lw))) (mulf (up r) (exp (cl lw)))) bitsLt_bf16_f32

def mb : FVec F S128x128 .f32 := ntMm (lhs r kk lw) (bd (mulf (bq kk g) (eneg lw)))

def mk : FVec F S128x128 .f32 := ntMm (lhs r kk lw) (bd (mulf (kd k g ka) (eneg lw)))

def wy : FVec F S128x128 .f32 :=
  nnMm (truncf .bf16 (select k0_pay7 (mk r k kk g lw ka) (broadcast S128x128 (Scalar.ofBits .f32 0x00000000#32))) bitsLt_bf16_f32)
    (bd (up v))

def mab : FVec F S64x128 .f32 := keep k0_pay5 (top (mb r kk g lw))

/-- One level of the inverse. -/
def lvl (c : IVec S64x128 1) (m t : FVec F S64x128 .f32) : FVec F S64x128 .f32 :=
  addf t (mmBd (mmBd t (keep c m)) t)

def t0 (m : FVec F S64x128 .f32) : FVec F S64x128 .f32 := addf (select k0_pay8 ones zeros) (keep k0_pay9 m)

def t5 (m : FVec F S64x128 .f32) : FVec F S64x128 .f32 :=
  lvl (k0_pay14 rowTok k0_pay4) m (lvl (k0_pay13 rowTok k0_pay4) m (lvl (k0_pay12 rowTok k0_pay4) m
    (lvl (k0_pay11 rowTok k0_pay4) m (lvl (k0_pay10 rowTok k0_pay4) m (t0 m)))))

def ag : FVec F S128x128 .f32 :=
  ntMm (lhs r kk lw) (truncf .bf16 (shapeCast S128x128 s shapeCasts_S1x128x128_S128x128) bitsLt_bf16_f32)

def u : FVec F S64x128 .f32 :=
  mmBd (t5 (mab r kk g lw)) (addf (top (ag r kk lw s)) (top (wy r k v kk g lw ka)))

/-- The chunk's result. -/
def y : FVec F S64x128 .bf16 :=
  truncf .bf16 (addf (addf (bot (ag r kk lw s)) (mmBd (keep k0_pay6 (bot (mb r kk g lw))) (u r k v kk g lw ka s)))
    (bot (wy r k v kk g lw ka))) bitsLt_bf16_f32

def eend : FVec F S64x128 .f32 := exp (subf (broadcastTo S64x128 (tot lw) broadcasts_S1x128_S64x128) (cl lw))

/-- The state after the chunk, of the state `s` the chunk reads and the state `d` that decays. -/
def s2 (d : FVec F S1x128x128 .f32) : FVec F S1x128x128 .f32 :=
  k0_pay1 k0_pay15
    (truncf .bf16 (transpose S128x128 [1, 0] (stack (u r k v kk g lw ka s) (up v)) transposes_S128x128_p1_0_S128x128) bitsLt_bf16_f32)
    (truncf .bf16 (stack (mulf (bq kk g) (eend lw)) (mulf (kd k g ka) (eend lw))) bitsLt_bf16_f32)
    (shapeCast S128x128 d shapeCasts_S1x128x128_S128x128)
    (broadcastTo S128x128 (exp (tot lw)) broadcasts_S1x128_S128x128)

def s' : FVec F S1x128x128 .f32 := s2 r k v kk g lw ka s s

end Cert.Pack

end
-- ==== Proof.Pieces.lean ====
/- What the kernel's body stores, written as one formula for the sixteen packs of lanes. -/
module

public import proofs.«01_k».proof.Proof.Gen.KernelIdeal.Frame
public import proofs.«01_k».proof.Proof.Pack
public import Idealize.ShloMosaic.Lib.Pipeline.ValueKit.Tiles

@[expose] public section

set_option maxRecDepth 16384

noncomputable section

namespace Cert.Pieces

open Idealize.ShloMosaic Idealize.ShloMosaic.TcCoe Idealize.ShloMosaic.Tactic
open Idealize.SL Idealize.SL.Sem Cert.KernelIdeal Cert.KernelIdeal.Gen

variable {F : FTy → Type} [FloatOps F]

/-- Pack `q` of a [64, 2048] block, of the [1, 2048] row, and of the state. -/
def rq (q : Fin 16) : Rect S64x2048 :=
  Rect.unit ![0, 128 * q.val] S64x128.size (by
    intro a; have := q.isLt; fin_cases a <;> simp [S64x2048, S64x128] <;> omega)

def rk (q : Fin 16) : Rect S1x2048 :=
  Rect.unit ![0, 128 * q.val] S1x128.size (by
    intro a; have := q.isLt; fin_cases a <;> simp [S1x2048, S1x128] <;> omega)

def rs (q : Fin 16) : Rect S16x128x128 :=
  Rect.unit ![q.val, 0, 0] S1x128x128.size (by
    intro a; have := q.isLt; fin_cases a <;> simp [S16x128x128, S1x128x128] <;> omega)

/-- A load of a pack. -/
def ldq {e : EltTy} (x : Vec F S64x2048 e) (q : Fin 16) : Vec F S64x128 e := View.ld x (rq q)
def ldk (x : Vec F S1x2048 .f32) (q : Fin 16) : FVec F S1x128 .f32 := View.ld x (rk q)
def lds (x : Vec F S16x128x128 .f32) (q : Fin 16) : FVec F S1x128x128 .f32 := View.ld x (rs q)

/-- The result of pack `q`, and its state after the chunk. -/
def yq (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) (s : FVec F S1x128x128 .f32) (q : Fin 16) : FVec F S64x128 .bf16 :=
  Pack.y (ldq x0 q) (ldq x1 q) (ldq x2 q) (ldq x3 q) (ldq x4 q) (ldq x5 q) (ldk x6 q) s

def sq (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) (s : FVec F S1x128x128 .f32) (q : Fin 16) : FVec F S1x128x128 .f32 :=
  Pack.s' (ldq x0 q) (ldq x1 q) (ldq x2 q) (ldq x3 q) (ldq x4 q) (ldq x5 q) (ldk x6 q) s

set_option maxHeartbeats 4000000 in
theorem run_B (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .f32) (harg8 : arg8.IsWhole) (arg9 : Memref sig .tc .vmem S1x2048 .f32) (harg9 : arg9.IsWhole) (arg10 : Memref sig .tc .vmem S64x2048 .bf16) (harg10 : arg10.IsWhole) (arg11 : Memref sig .tc .vmem S16x128x128 .f32) (harg11 : arg11.IsWhole) (hc0 : ¬cond0_0 i)
    (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) (xs0 : Vec F S16x128x128 .f32) :
    (kernelRun0_B c i arg3 harg3 arg4 harg4 arg5 harg5 arg6 harg6 arg7 harg7 arg8 harg8 arg9 harg9 arg10 harg10 arg11 harg11 hc0 x0 x1 x2 x3 x4 x5 x6 xs0).1 =
      List.ofFn fun k : Fin 16 => (⟨rq k.rev, Pack.y
        (View.readAt (Elt F) arg3.view (rq k.rev).toLoadRect (harg3.unread x0))
        (View.readAt (Elt F) arg4.view (rq k.rev).toLoadRect (harg4.unread x1))
        (View.readAt (Elt F) arg5.view (rq k.rev).toLoadRect (harg5.unread x2))
        (View.readAt (Elt F) arg6.view (rq k.rev).toLoadRect (harg6.unread x3))
        (View.readAt (Elt F) arg7.view (rq k.rev).toLoadRect (harg7.unread x4))
        (View.readAt (Elt F) arg8.view (rq k.rev).toLoadRect (harg8.unread x5))
        (View.readAt (Elt F) arg9.view (rk k.rev).toLoadRect (harg9.unread x6))
        (View.readAt (Elt F) arg11.view (rs k.rev).toLoadRect (harg11.unread xs0))⟩ : View.Piece (Elt F) S64x2048 .bf16) := rfl

set_option maxHeartbeats 4000000 in
theorem srun_B (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .f32) (harg8 : arg8.IsWhole) (arg9 : Memref sig .tc .vmem S1x2048 .f32) (harg9 : arg9.IsWhole) (arg10 : Memref sig .tc .vmem S64x2048 .bf16) (harg10 : arg10.IsWhole) (arg11 : Memref sig .tc .vmem S16x128x128 .f32) (harg11 : arg11.IsWhole) (hc0 : ¬cond0_0 i)
    (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) (xs0 : Vec F S16x128x128 .f32) :
    (kernelRun0_B c i arg3 harg3 arg4 harg4 arg5 harg5 arg6 harg6 arg7 harg7 arg8 harg8 arg9 harg9 arg10 harg10 arg11 harg11 hc0 x0 x1 x2 x3 x4 x5 x6 xs0).2.1 =
      List.ofFn fun k : Fin 16 => (⟨rs k.rev, Pack.s'
        (View.readAt (Elt F) arg3.view (rq k.rev).toLoadRect (harg3.unread x0))
        (View.readAt (Elt F) arg4.view (rq k.rev).toLoadRect (harg4.unread x1))
        (View.readAt (Elt F) arg5.view (rq k.rev).toLoadRect (harg5.unread x2))
        (View.readAt (Elt F) arg6.view (rq k.rev).toLoadRect (harg6.unread x3))
        (View.readAt (Elt F) arg7.view (rq k.rev).toLoadRect (harg7.unread x4))
        (View.readAt (Elt F) arg8.view (rq k.rev).toLoadRect (harg8.unread x5))
        (View.readAt (Elt F) arg9.view (rk k.rev).toLoadRect (harg9.unread x6))
        (View.readAt (Elt F) arg11.view (rs k.rev).toLoadRect (harg11.unread xs0))⟩ : View.Piece (Elt F) S16x128x128 .f32) := rfl

/-- The zeros the state starts from, as a piece. -/
def reset : List (View.Piece (Elt F) S16x128x128 .f32) := [⟨Rect.unit ![0, 0, 0] S16x128x128.size inb_S16x128x128_S16x128x128_0_0_0, k0_pay2⟩]

/-- The pieces of the state at a point that starts from the zero state: the packs of `l` stored over the zeros, the last
first; a pack's payload decays what is there when it is stored. -/
def stA (v : View sig .tc .vmem S16x128x128 .f32) (P : Fin 16 → FVec F S1x128x128 .f32 → FVec F S1x128x128 .f32) :
    List (Fin 16) → List (View.Piece (Elt F) S16x128x128 .f32)
  | [] => reset
  | q :: l => ⟨rs q, P q (v.readCov (stA v P l) (rs q).toLoadRect)⟩ :: stA v P l

set_option maxHeartbeats 4000000 in
theorem run_A (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .f32) (harg8 : arg8.IsWhole) (arg9 : Memref sig .tc .vmem S1x2048 .f32) (harg9 : arg9.IsWhole) (arg10 : Memref sig .tc .vmem S64x2048 .bf16) (harg10 : arg10.IsWhole) (arg11 : Memref sig .tc .vmem S16x128x128 .f32) (harg11 : arg11.IsWhole) (hc0 : cond0_0 i)
    (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) :
    (kernelRun0_A c i arg3 harg3 arg4 harg4 arg5 harg5 arg6 harg6 arg7 harg7 arg8 harg8 arg9 harg9 arg10 harg10 arg11 harg11 hc0 x0 x1 x2 x3 x4 x5 x6).1 =
      List.ofFn fun k : Fin 16 => (⟨rq k.rev, Pack.y
        (View.readAt (Elt F) arg3.view (rq k.rev).toLoadRect (harg3.unread x0))
        (View.readAt (Elt F) arg4.view (rq k.rev).toLoadRect (harg4.unread x1))
        (View.readAt (Elt F) arg5.view (rq k.rev).toLoadRect (harg5.unread x2))
        (View.readAt (Elt F) arg6.view (rq k.rev).toLoadRect (harg6.unread x3))
        (View.readAt (Elt F) arg7.view (rq k.rev).toLoadRect (harg7.unread x4))
        (View.readAt (Elt F) arg8.view (rq k.rev).toLoadRect (harg8.unread x5))
        (View.readAt (Elt F) arg9.view (rk k.rev).toLoadRect (harg9.unread x6))
        (arg11.view.readCov (Val := Elt F) reset (rs k.rev).toLoadRect)⟩ : View.Piece (Elt F) S64x2048 .bf16) := rfl

set_option maxHeartbeats 4000000 in
theorem srun_A (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .f32) (harg8 : arg8.IsWhole) (arg9 : Memref sig .tc .vmem S1x2048 .f32) (harg9 : arg9.IsWhole) (arg10 : Memref sig .tc .vmem S64x2048 .bf16) (harg10 : arg10.IsWhole) (arg11 : Memref sig .tc .vmem S16x128x128 .f32) (harg11 : arg11.IsWhole) (hc0 : cond0_0 i)
    (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) :
    (kernelRun0_A c i arg3 harg3 arg4 harg4 arg5 harg5 arg6 harg6 arg7 harg7 arg8 harg8 arg9 harg9 arg10 harg10 arg11 harg11 hc0 x0 x1 x2 x3 x4 x5 x6).2.1 =
      stA arg11.view (fun k => Pack.s2
        (View.readAt (Elt F) arg3.view (rq k).toLoadRect (harg3.unread x0))
        (View.readAt (Elt F) arg4.view (rq k).toLoadRect (harg4.unread x1))
        (View.readAt (Elt F) arg5.view (rq k).toLoadRect (harg5.unread x2))
        (View.readAt (Elt F) arg6.view (rq k).toLoadRect (harg6.unread x3))
        (View.readAt (Elt F) arg7.view (rq k).toLoadRect (harg7.unread x4))
        (View.readAt (Elt F) arg8.view (rq k).toLoadRect (harg8.unread x5))
        (View.readAt (Elt F) arg9.view (rk k).toLoadRect (harg9.unread x6))
        (arg11.view.readCov (Val := Elt F) reset (rs k).toLoadRect))
        [15, 14, 13, 12, 11, 10, 9, 8, 7, 6, 5, 4, 3, 2, 1, 0] := rfl

theorem rq_disjoint (k k' : Fin 16) (h : k ≠ k') : Disjoint (rq k).set (rq k').set := by
  rw [Finset.disjoint_left]
  intro y h1 h2
  have a := (Rect.mem_set_unit.mp h1) 1
  have b := (Rect.mem_set_unit.mp h2) 1
  have e : k.val ≠ k'.val := fun e => h (Fin.ext e)
  have s1 : S64x128.size 1 = 128 := rfl
  simp only [s1, Matrix.cons_val_one] at a b
  simp at a b
  omega

theorem rs_disjoint (k k' : Fin 16) (h : k ≠ k') : Disjoint (rs k).set (rs k').set := by
  rw [Finset.disjoint_left]
  intro y h1 h2
  have a := (Rect.mem_set_unit.mp h1) 0
  have b := (Rect.mem_set_unit.mp h2) 0
  have e : k.val ≠ k'.val := fun e => h (Fin.ext e)
  have s1 : S1x128x128.size 0 = 1 := rfl
  simp only [s1] at a b
  simp at a b
  omega

theorem whole_k0 : (View.canon (reset (F := F)))
    = k0_pay2 := View.canon_unit_zero (by funext a; fin_cases a <;> rfl) _ _

/-- What the pieces of the state hold at a pack stored, and at one that is not. -/
theorem canon_stA (v : View sig .tc .vmem S16x128x128 .f32) (P : Fin 16 → FVec F S1x128x128 .f32 → FVec F S1x128x128 .f32)
    (l : List (Fin 16)) (hl : l.Nodup) (q : Fin 16) (x : (rs q).shape.Idx) :
    View.canon (stA v P l) ((rs q).emb x) = if q ∈ l then P q (lds k0_pay2 q) x else lds (F := F) k0_pay2 q x := by
  induction l generalizing q with
  | nil => rw [stA, whole_k0]; simp; rfl
  | cons a l ih =>
    have hr : ∀ (q : Fin 16), q ∉ l → v.readCov (Val := Elt F) (stA v P l) (rs q).toLoadRect = lds k0_pay2 q := by
      intro q hq
      refine (View.readCov_eq_canon' v _ _).trans (funext fun j => ?_)
      exact (ih (List.nodup_cons.mp hl).2 q j).trans (if_neg hq)
    by_cases h : q = a
    · subst h
      refine (View.canon_cons_emb (rs q) _ _ x).trans ?_
      rw [if_pos List.mem_cons_self]
      exact congrFun (congrArg (P q) (hr q (List.nodup_cons.mp hl).1)) x
    · refine (View.canon_cons_of_not_mem _ _ ?_).trans ((ih (List.nodup_cons.mp hl).2 q x).trans ?_)
      · intro hm
        exact Finset.disjoint_left.mp (rs_disjoint q a h) ((rs q).idx_mem x) hm
      · simp [h]

theorem out_B (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .f32) (harg8 : arg8.IsWhole) (arg9 : Memref sig .tc .vmem S1x2048 .f32) (harg9 : arg9.IsWhole) (arg10 : Memref sig .tc .vmem S64x2048 .bf16) (harg10 : arg10.IsWhole) (arg11 : Memref sig .tc .vmem S16x128x128 .f32) (harg11 : arg11.IsWhole) (hc0 : ¬cond0_0 i)
    (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) (xs0 : Vec F S16x128x128 .f32) (q : Fin 16) (x : S64x128.Idx) :
    out0_B_7 c i arg3 harg3 arg4 harg4 arg5 harg5 arg6 harg6 arg7 harg7 arg8 harg8 arg9 harg9 arg10 harg10 arg11 harg11 hc0 x0 x1 x2 x3 x4 x5 x6 xs0 ((rq q).emb x) = yq x0 x1 x2 x3 x4 x5 x6 (lds xs0 q) q x := by
  unfold out0_B_7
  rw [View.read_writes_junk_eq_canon, run_B]
  obtain ⟨k, rfl⟩ : ∃ k : Fin 16, q = k.rev := ⟨q.rev, by simp⟩
  refine (View.canon_ofFn_emb_of_disjoint (fun k : Fin 16 => rq k.rev) _ (fun k k' h => rq_disjoint _ _ (fun e => h (Fin.rev_injective e))) k x).trans ?_
  simp only [View.readAt_eq_ld, harg3.read_unread, harg4.read_unread, harg5.read_unread, harg6.read_unread, harg7.read_unread, harg8.read_unread, harg9.read_unread, harg11.read_unread]
  rfl

theorem sout_B (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .f32) (harg8 : arg8.IsWhole) (arg9 : Memref sig .tc .vmem S1x2048 .f32) (harg9 : arg9.IsWhole) (arg10 : Memref sig .tc .vmem S64x2048 .bf16) (harg10 : arg10.IsWhole) (arg11 : Memref sig .tc .vmem S16x128x128 .f32) (harg11 : arg11.IsWhole) (hc0 : ¬cond0_0 i)
    (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) (xs0 : Vec F S16x128x128 .f32) (q : Fin 16) (x : S1x128x128.Idx) :
    sout0_B_0 c i arg3 harg3 arg4 harg4 arg5 harg5 arg6 harg6 arg7 harg7 arg8 harg8 arg9 harg9 arg10 harg10 arg11 harg11 hc0 x0 x1 x2 x3 x4 x5 x6 xs0 ((rs q).emb x) = sq x0 x1 x2 x3 x4 x5 x6 (lds xs0 q) q x := by
  unfold sout0_B_0
  rw [View.read_writes_junk_eq_canon, srun_B]
  obtain ⟨k, rfl⟩ : ∃ k : Fin 16, q = k.rev := ⟨q.rev, by simp⟩
  refine (View.canon_ofFn_emb_of_disjoint (fun k : Fin 16 => rs k.rev) _ (fun k k' h => rs_disjoint _ _ (fun e => h (Fin.rev_injective e))) k x).trans ?_
  simp only [View.readAt_eq_ld, harg3.read_unread, harg4.read_unread, harg5.read_unread, harg6.read_unread, harg7.read_unread, harg8.read_unread, harg9.read_unread, harg11.read_unread]
  rfl

theorem out_A (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .f32) (harg8 : arg8.IsWhole) (arg9 : Memref sig .tc .vmem S1x2048 .f32) (harg9 : arg9.IsWhole) (arg10 : Memref sig .tc .vmem S64x2048 .bf16) (harg10 : arg10.IsWhole) (arg11 : Memref sig .tc .vmem S16x128x128 .f32) (harg11 : arg11.IsWhole) (hc0 : cond0_0 i)
    (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) (q : Fin 16) (x : S64x128.Idx) :
    out0_A_7 c i arg3 harg3 arg4 harg4 arg5 harg5 arg6 harg6 arg7 harg7 arg8 harg8 arg9 harg9 arg10 harg10 arg11 harg11 hc0 x0 x1 x2 x3 x4 x5 x6 ((rq q).emb x) = yq x0 x1 x2 x3 x4 x5 x6 (lds k0_pay2 q) q x := by
  unfold out0_A_7
  rw [View.read_writes_junk_eq_canon, run_A]
  obtain ⟨k, rfl⟩ : ∃ k : Fin 16, q = k.rev := ⟨q.rev, by simp⟩
  refine (View.canon_ofFn_emb_of_disjoint (fun k : Fin 16 => rq k.rev) _ (fun k k' h => rq_disjoint _ _ (fun e => h (Fin.rev_injective e))) k x).trans ?_
  simp only [View.readAt_eq_ld, View.readCov_eq_canon', whole_k0, harg3.read_unread, harg4.read_unread, harg5.read_unread, harg6.read_unread, harg7.read_unread, harg8.read_unread, harg9.read_unread, harg11.read_unread]
  rfl

theorem sout_A (c : Dev nD) (i : grid0.Coords) (arg3 : Memref sig .tc .vmem S64x2048 .bf16) (harg3 : arg3.IsWhole) (arg4 : Memref sig .tc .vmem S64x2048 .bf16) (harg4 : arg4.IsWhole) (arg5 : Memref sig .tc .vmem S64x2048 .bf16) (harg5 : arg5.IsWhole) (arg6 : Memref sig .tc .vmem S64x2048 .bf16) (harg6 : arg6.IsWhole) (arg7 : Memref sig .tc .vmem S64x2048 .bf16) (harg7 : arg7.IsWhole) (arg8 : Memref sig .tc .vmem S64x2048 .f32) (harg8 : arg8.IsWhole) (arg9 : Memref sig .tc .vmem S1x2048 .f32) (harg9 : arg9.IsWhole) (arg10 : Memref sig .tc .vmem S64x2048 .bf16) (harg10 : arg10.IsWhole) (arg11 : Memref sig .tc .vmem S16x128x128 .f32) (harg11 : arg11.IsWhole) (hc0 : cond0_0 i)
    (x0 : Vec F S64x2048 .bf16) (x1 : Vec F S64x2048 .bf16) (x2 : Vec F S64x2048 .bf16) (x3 : Vec F S64x2048 .bf16) (x4 : Vec F S64x2048 .bf16) (x5 : Vec F S64x2048 .f32) (x6 : Vec F S1x2048 .f32) (q : Fin 16) (x : S1x128x128.Idx) :
    sout0_A_0 c i arg3 harg3 arg4 harg4 arg5 harg5 arg6 harg6 arg7 harg7 arg8 harg8 arg9 harg9 arg10 harg10 arg11 harg11 hc0 x0 x1 x2 x3 x4 x5 x6 ((rs q).emb x) = sq x0 x1 x2 x3 x4 x5 x6 (lds k0_pay2 q) q x := by
  unfold sout0_A_0
  rw [View.read_writes_junk_eq_canon, srun_A]
  refine (canon_stA _ _ _ (by decide) q x).trans ?_
  rw [if_pos (by revert q; decide)]
  simp only [View.readAt_eq_ld, View.readCov_eq_canon', whole_k0, harg3.read_unread, harg4.read_unread, harg5.read_unread, harg6.read_unread, harg7.read_unread, harg8.read_unread, harg9.read_unread, harg11.read_unread]
  rfl

end Cert.Pieces

end
-- ==== Proof.Words.lean ====
/- The words the masks of the kernel's body are computed from. -/
module

public import proofs.«01_k».proof.Proof.Pack
public import Idealize.ShloMosaic.Lib.Pointwise.Contract
public import Idealize.ShloMosaic.Lib.Pointwise.ElementwiseCore
public import Idealize.ShloMosaic.Lib.Pipeline.Value
public import Idealize.ShloMosaic.Lib.ValueIdx

@[expose] public section

namespace Cert.Pack

open Idealize.ShloMosaic Cert.KernelIdeal Cert.KernelIdeal.Facts Cert.KernelIdeal.Gen

/-- Lane `n` of head `h` of a pack. -/
def lane (h : Fin 2) (n : Fin 64) : Fin 128 := ⟨64 * h.val + n.val, by omega⟩

/-- A mask's word. -/
def bit (p : Bool) : BitVec 1 := if p then 1#1 else 0#1

/-- The word of a small number. -/
def wd (n : Fin 64) : BitVec 32 := BitVec.ofNat 32 n.val

theorem and63 : ∀ (h : Fin 2) (n : Fin 64), IntOp.andi (BitVec.ofNat 32 (lane h n).val) 63#32 = wd n := by decide +kernel

theorem w_slt : ∀ a b : Fin 64, IntOp.cmpi .slt (wd a) (wd b) = bit (decide (a < b)) := by decide +kernel
theorem w_sle : ∀ a b : Fin 64, IntOp.cmpi .sle (wd a) (wd b) = bit (decide (a ≤ b)) := by decide +kernel
theorem w_eq : ∀ a b : Fin 64, IntOp.cmpi .eq (wd a) (wd b) = bit (decide (a = b)) := by decide +kernel
theorem w_ne : ∀ a b : Fin 64, IntOp.cmpi .ne (wd a) (wd b) = bit (decide (a ≠ b)) := by decide +kernel
theorem w_sge : ∀ (h : Fin 2) (n : Fin 64), IntOp.cmpi .sge (BitVec.ofNat 32 (lane h n).val) 64#32 = bit (decide (h = 1)) := by
  decide +kernel
theorem w_and : ∀ p q : Bool, IntOp.andi (bit p) (bit q) = bit (p && q) := by decide +kernel
theorem w_or : ∀ p q : Bool, IntOp.ori (bit p) (bit q) = bit (p || q) := by decide +kernel

/-- A number shifted right. -/
def shr (n : Fin 64) (k : Fin 7) : Fin 64 := ⟨n.val >>> k.val, lt_of_le_of_lt (Nat.shiftRight_le _ _) n.isLt⟩

theorem w_shr : ∀ (a : Fin 64) (k : Fin 7), IntOp.shrsi .vector (wd a) (BitVec.ofNat 32 k.val) = wd (shr a k) := by decide +kernel
theorem w_hd : ∀ (h : Fin 2) (n : Fin 64), IntOp.shrsi .vector (BitVec.ofNat 32 (lane h n).val) 6#32 = BitVec.ofNat 32 h.val := by
  decide +kernel
theorem w_hd_eq : ∀ h h' : Fin 2, IntOp.cmpi .eq (BitVec.ofNat 32 h.val) (BitVec.ofNat 32 h'.val) = bit (decide (h = h')) := by
  decide +kernel

end Cert.Pack
-- ==== Proof.Masks.lean ====
/- The masks of the kernel's body, entry by entry: rows are tokens, lanes are a head and a token of that head. -/
module

public import proofs.«01_k».proof.Proof.Words
public import Idealize.ShloMosaic.Lib.Pointwise.Contract
public import Idealize.ShloMosaic.Lib.Pointwise.ElementwiseCore
public import Idealize.ShloMosaic.Lib.Pipeline.Value
public import Idealize.ShloMosaic.Lib.ValueIdx

@[expose] public section

namespace Cert.Pack

open Idealize.ShloMosaic Cert.KernelIdeal Cert.KernelIdeal.Facts Cert.KernelIdeal.Gen

theorem bcast {α : Type} {s : Shape} (x : α) (i : s.Idx) : broadcast s x i = x := rfl
theorem io0 (h) (t : Fin 64) (l : Fin 128) : iota .tc S64x128 32 [0] h (ix2 t l) = wd t := iota_single_apply _ _ _ _ h _
theorem io1 (h) (t : Fin 64) (l : Fin 128) : iota .tc S64x128 32 [1] h (ix2 t l) = BitVec.ofNat 32 l.val :=
  iota_single_apply _ _ _ _ h _
theorem jo0 (h) (t l : Fin 128) : iota .tc S128x128 32 [0] h (ix2 t l) = BitVec.ofNat 32 t.val := iota_single_apply _ _ _ _ h _
theorem jo1 (h) (t l : Fin 128) : iota .tc S128x128 32 [1] h (ix2 t l) = BitVec.ofNat 32 l.val := iota_single_apply _ _ _ _ h _

theorem m4 (t : Fin 64) (h : Fin 2) (s : Fin 64) : k0_pay4 (ix2 t (lane h s)) = wd s := by
  simp only [k0_pay4, pointwise, bcast]
  rw [io1, and63]

theorem m5 (t : Fin 64) (h : Fin 2) (s : Fin 64) : k0_pay5 (ix2 t (lane h s)) = bit (decide (s < t)) := by
  simp only [k0_pay5, pointwise, bcast, m4]
  rw [io0]
  exact w_slt s t

theorem m6 (t : Fin 64) (h : Fin 2) (s : Fin 64) : k0_pay6 (ix2 t (lane h s)) = bit (decide (s ≤ t)) := by
  simp only [k0_pay6, pointwise, bcast, m4]
  rw [io0]
  exact w_sle s t

theorem m8 (t : Fin 64) (h : Fin 2) (s : Fin 64) : k0_pay8 (ix2 t (lane h s)) = bit (decide (s = t)) := by
  simp only [k0_pay8, pointwise, bcast, m4]
  rw [io0]
  exact w_eq s t

theorem m7 (p : Fin 2) (t : Fin 64) (h : Fin 2) (s : Fin 64) :
    k0_pay7 (ix2 (lane p t) (lane h s)) = bit (decide (s < t) || (decide (p = 1) && decide (s = t))) := by
  simp only [k0_pay7, pointwise, bcast]
  rw [jo0, jo1]
  simp only [and63, w_sge, w_slt, w_eq, w_and, w_or]

theorem m15 (p : Fin 2) (t : Fin 64) (h : Fin 2) (s : Fin 64) :
    k0_pay15 (ix2 (lane p t) (lane h s)) = bit (decide (p = h)) := by
  simp only [k0_pay15, pointwise, bcast]
  rw [jo0, jo1]
  simp only [w_hd, w_hd_eq]

theorem m16 (t : Fin 64) (h' h : Fin 2) (s : Fin 64) :
    lanes (BitVec.ofNat 32 h'.val) (ix2 t (lane h s)) = bit (decide (h = h')) := by
  simp only [lanes, k0_pay16, pointwise, bcast]
  rw [io1]
  simp only [w_hd, w_hd_eq]

/-- The mask of a level of the inverse, as the words compare. -/
theorem lev (t s : Fin 64) (l : Fin 6) :
    IntOp.andi
      (IntOp.cmpi .eq (IntOp.shrsi .vector (wd t) (BitVec.ofNat 32 (l.succ : Fin 7).val)) (IntOp.shrsi .vector (wd s) (BitVec.ofNat 32 (l.succ : Fin 7).val)))
      (IntOp.cmpi .ne (IntOp.shrsi .vector (wd t) (BitVec.ofNat 32 (l.castSucc : Fin 7).val)) (IntOp.shrsi .vector (wd s) (BitVec.ofNat 32 (l.castSucc : Fin 7).val)))
    = bit (decide (t.val >>> (l.val + 1) = s.val >>> (l.val + 1) ∧ t.val >>> l.val ≠ s.val >>> l.val)) := by
  rw [w_shr, w_shr, w_shr, w_shr, w_eq, w_ne, w_and]
  congr 1
  simp [shr, Fin.ext_iff]

theorem m9 (t : Fin 64) (h : Fin 2) (s : Fin 64) : k0_pay9 (ix2 t (lane h s))
    = bit (decide (t.val >>> (0 + 1) = s.val >>> (0 + 1) ∧ t.val >>> 0 ≠ s.val >>> 0)) := by
  simp only [k0_pay9, rowTok, pointwise, bcast, m4]
  rw [io0]
  exact lev t s 0
theorem m10 (t : Fin 64) (h : Fin 2) (s : Fin 64) : k0_pay10 rowTok k0_pay4 (ix2 t (lane h s))
    = bit (decide (t.val >>> (1 + 1) = s.val >>> (1 + 1) ∧ t.val >>> 1 ≠ s.val >>> 1)) := by
  simp only [k0_pay10, rowTok, pointwise, bcast, m4]
  rw [io0]
  exact lev t s 1
theorem m11 (t : Fin 64) (h : Fin 2) (s : Fin 64) : k0_pay11 rowTok k0_pay4 (ix2 t (lane h s))
    = bit (decide (t.val >>> (2 + 1) = s.val >>> (2 + 1) ∧ t.val >>> 2 ≠ s.val >>> 2)) := by
  simp only [k0_pay11, rowTok, pointwise, bcast, m4]
  rw [io0]
  exact lev t s 2
theorem m12 (t : Fin 64) (h : Fin 2) (s : Fin 64) : k0_pay12 rowTok k0_pay4 (ix2 t (lane h s))
    = bit (decide (t.val >>> (3 + 1) = s.val >>> (3 + 1) ∧ t.val >>> 3 ≠ s.val >>> 3)) := by
  simp only [k0_pay12, rowTok, pointwise, bcast, m4]
  rw [io0]
  exact lev t s 3
theorem m13 (t : Fin 64) (h : Fin 2) (s : Fin 64) : k0_pay13 rowTok k0_pay4 (ix2 t (lane h s))
    = bit (decide (t.val >>> (4 + 1) = s.val >>> (4 + 1) ∧ t.val >>> 4 ≠ s.val >>> 4)) := by
  simp only [k0_pay13, rowTok, pointwise, bcast, m4]
  rw [io0]
  exact lev t s 4
theorem m14 (t : Fin 64) (h : Fin 2) (s : Fin 64) : k0_pay14 rowTok k0_pay4 (ix2 t (lane h s))
    = bit (decide (t.val >>> (5 + 1) = s.val >>> (5 + 1) ∧ t.val >>> 5 ≠ s.val >>> 5)) := by
  simp only [k0_pay14, rowTok, pointwise, bcast, m4]
  rw [io0]
  exact lev t s 5

end Cert.Pack
-- ==== Proof.Real.lean ====
/- The arrays of one pack as real arrays, and what each operation of the body does to them. -/
module

public import proofs.«01_k».proof.Proof.Masks
public import Idealize.ShloMosaic.Lib.IdealHost

@[expose] public section

noncomputable section

namespace Cert.Pack

open Idealize.ShloMosaic Cert.KernelIdeal Cert.KernelIdeal.Facts Cert.KernelIdeal.Gen

/-- A [64, 128] array holds a pair of real [64, 64] arrays, one a head. -/
def Is2 {φ : FTy} (x : FVec Ideal S64x128 φ) (f : Fin 2 → Fin 64 → Fin 64 → ℝ) : Prop :=
  ∀ h t n, x (ix2 t (lane h n)) = ((f h t n : ℝ) : EReal)

/-- A [128, 128] array holds four of them. -/
def Is4 {φ : FTy} (x : FVec Ideal S128x128 φ) (f : Fin 2 → Fin 64 → Fin 2 → Fin 64 → ℝ) : Prop :=
  ∀ p t h n, x (ix2 (lane p t) (lane h n)) = ((f p t h n : ℝ) : EReal)

def Is1 {φ : FTy} (x : FVec Ideal S1x128 φ) (f : Fin 2 → Fin 64 → ℝ) : Prop :=
  ∀ h n, x (ix2 0 (lane h n)) = ((f h n : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_lane {M : Type} [AddCommMonoid M] (g : Fin 128 → M) : ∑ k, g k = ∑ h : Fin 2, ∑ n : Fin 64, g (lane h n) := by
  rw [Fin.sum_univ_two]
  refine (Fin.sum_univ_add (a := 64) (b := 64) g).trans ?_
  congr 1

theorem ofBits0 : Scalar.ofBits (F := Ideal) .f32 0x00000000#32 = ((0 : ℝ) : EReal) := Ideal.ofBits_zero_f32
theorem ofBits1 : Scalar.ofBits (F := Ideal) .f32 0x3F800000#32 = ((1 : ℝ) : EReal) := Ideal.ofBits_one_f32

theorem sel (p : Bool) {α : Type} (a b : α) : Scalar.select (bit p) a b = if p then a else b := by
  cases p <;> rfl

section ops
variable {φ ψ : FTy} {f g : Fin 2 → Fin 64 → Fin 64 → ℝ}

theorem Is2.congr {x : FVec Ideal S64x128 φ} (h : Is2 x f) (e : ∀ h t n, f h t n = g h t n) : Is2 x g :=
  fun a t n => (h a t n).trans (by rw [e])

theorem is2_trunc {x : FVec Ideal S64x128 φ} (h) (hx : Is2 x f) : Is2 (truncf ψ x h) f := hx
theorem is2_ext {x : FVec Ideal S64x128 φ} (h) (hx : Is2 x f) : Is2 (extf ψ x h) f := hx

theorem is2_add {x y : FVec Ideal S64x128 φ} (hx : Is2 x f) (hy : Is2 y g) : Is2 (addf x y) fun h t n => f h t n + g h t n :=
  fun h t n => by rw [EReal.coe_add, ← hx, ← hy]; rfl
theorem is2_sub {x y : FVec Ideal S64x128 φ} (hx : Is2 x f) (hy : Is2 y g) : Is2 (subf x y) fun h t n => f h t n - g h t n :=
  fun h t n => by rw [EReal.coe_sub, ← hx, ← hy]; rfl
theorem is2_mul {x y : FVec Ideal S64x128 φ} (hx : Is2 x f) (hy : Is2 y g) : Is2 (mulf x y) fun h t n => f h t n * g h t n :=
  fun h t n => by rw [EReal.coe_mul, ← hx, ← hy]; rfl
theorem is2_exp {x : FVec Ideal S64x128 φ} (hx : Is2 x f) : Is2 (exp x) fun h t n => Real.exp (f h t n) :=
  fun h t n => by rw [← Ideal.exp_coe, ← hx]; rfl

theorem is2_ones : Is2 (ones (F := Ideal)) fun _ _ _ => 1 := fun _ _ _ => ofBits1
theorem is2_zeros : Is2 (zeros (F := Ideal)) fun _ _ _ => 0 := fun _ _ _ => ofBits0

theorem is2_select {c : IVec S64x128 1} {p : Fin 2 → Fin 64 → Fin 64 → Bool} (hc : ∀ h t n, c (ix2 t (lane h n)) = bit (p h t n))
    {x y : FVec Ideal S64x128 φ} (hx : Is2 x f) (hy : Is2 y g) :
    Is2 (select c x y) fun h t n => if p h t n then f h t n else g h t n := fun h t n => by
  refine Eq.trans (b := Scalar.select (c (ix2 t (lane h n))) (x (ix2 t (lane h n))) (y (ix2 t (lane h n)))) rfl ?_
  rw [hc, sel, hx, hy]
  by_cases hp : p h t n = true <;> simp [hp]

theorem is2_keep {c : IVec S64x128 1} {p : Fin 2 → Fin 64 → Fin 64 → Bool} (hc : ∀ h t n, c (ix2 t (lane h n)) = bit (p h t n))
    {x : FVec Ideal S64x128 .f32} (hx : Is2 x f) : Is2 (keep c x) fun h t n => if p h t n then f h t n else 0 :=
  is2_select hc hx is2_zeros

theorem is4_select {c : IVec S128x128 1} {p : Fin 2 → Fin 64 → Fin 2 → Fin 64 → Bool}
    (hc : ∀ q t h n, c (ix2 (lane q t) (lane h n)) = bit (p q t h n)) {f : Fin 2 → Fin 64 → Fin 2 → Fin 64 → ℝ}
    {x : FVec Ideal S128x128 .f32} (hx : Is4 x f) :
    Is4 (select c x (broadcast S128x128 (Scalar.ofBits .f32 0x00000000#32))) fun q t h n => if p q t h n then f q t h n else 0 :=
  fun q t h n => by
  refine Eq.trans (b := Scalar.select (c (ix2 (lane q t) (lane h n))) (x (ix2 (lane q t) (lane h n))) (Scalar.ofBits .f32 0x00000000#32)) rfl ?_
  rw [hc, sel, hx, ofBits0]
  by_cases hp : p q t h n = true <;> simp [hp]

theorem is4_trunc {f : Fin 2 → Fin 64 → Fin 2 → Fin 64 → ℝ} {x : FVec Ideal S128x128 φ} (h) (hx : Is4 x f) : Is4 (truncf ψ x h) f := hx

theorem Is4.congr {f g : Fin 2 → Fin 64 → Fin 2 → Fin 64 → ℝ} {x : FVec Ideal S128x128 φ} (h : Is4 x f)
    (e : ∀ p t h n, f p t h n = g p t h n) : Is4 x g :=
  fun p t a n => (h p t a n).trans (by rw [e])

theorem is4_add {f g : Fin 2 → Fin 64 → Fin 2 → Fin 64 → ℝ} {x y : FVec Ideal S128x128 φ} (hx : Is4 x f) (hy : Is4 y g) :
    Is4 (addf x y) fun p t h n => f p t h n + g p t h n :=
  fun p t h n => by rw [EReal.coe_add, ← hx, ← hy]; rfl
theorem is4_mul {f g : Fin 2 → Fin 64 → Fin 2 → Fin 64 → ℝ} {x y : FVec Ideal S128x128 φ} (hx : Is4 x f) (hy : Is4 y g) :
    Is4 (mulf x y) fun p t h n => f p t h n * g p t h n :=
  fun p t h n => by rw [EReal.coe_mul, ← hx, ← hy]; rfl

theorem is4_stack {x y : FVec Ideal S64x128 φ} (hx : Is2 x f) (hy : Is2 y g) :
    Is4 (stack x y) fun p t h n => if p = 0 then f h t n else g h t n := by
  intro p t h n
  fin_cases p
  · refine (concatenate_pair_apply_left (t := S128x128) (s₁ := S64x128) (s₂ := S64x128) 0 x y _ (ix2 (lane 0 t) (lane h n)) rfl (ix2 t (lane h n)) ?_).trans ?_
    · intro b; fin_cases b
      · simp [lane]
      · rfl
    · simpa using hx h t n
  · refine (concatenate_pair_apply_right (t := S128x128) (s₁ := S64x128) (s₂ := S64x128) 0 x y _ (ix2 (lane 1 t) (lane h n)) rfl rfl (ix2 t (lane h n)) ?_ ?_).trans ?_
    · intro b hb; fin_cases b
      · exact absurd rfl hb
      · rfl
    · show t.val + 64 = 64 * 1 + t.val
      omega
    · simpa using hy h t n

theorem is4_bd {x : FVec Ideal S64x128 .f32} (hx : Is2 x f) : Is4 (bd x) fun p s h n => if h = p then f h s n else 0 := by
  refine (is4_stack (is2_keep (fun h t n => m16 t 0 h n) hx) (is2_keep (fun h t n => m16 t 1 h n) hx)).congr ?_
  intro p t h n
  fin_cases p <;> simp

theorem is4_nt {f g : Fin 2 → Fin 64 → Fin 2 → Fin 64 → ℝ} {x y : FVec Ideal S128x128 .bf16} (hx : Is4 x f) (hy : Is4 y g) :
    Is4 (ntMm x y) fun p t h s => ∑ h', ∑ n, f p t h' n * g h s h' n := by
  intro p t h s
  refine Eq.trans (b := ((0 : ℝ) : EReal) + ∑ k : Fin 128, x (ix2 (lane p t) k) * y (ix2 (lane h s) k)) ?_ ?_
  · rw [← ofBits0]
    simp only [ntMm, pointwise]
  · rw [sum_lane]
    simp only [hx _ _ _ _, hy _ _ _ _, ← EReal.coe_mul, ← coe_sum, EReal.coe_zero, zero_add]

theorem is4_nn {f g : Fin 2 → Fin 64 → Fin 2 → Fin 64 → ℝ} {x y : FVec Ideal S128x128 .bf16} (hx : Is4 x f) (hy : Is4 y g) :
    Is4 (nnMm x y) fun p t h s => ∑ h', ∑ n, f p t h' n * g h' n h s := by
  intro p t h s
  refine Eq.trans (b := ((0 : ℝ) : EReal) + ∑ k : Fin 128, x (ix2 (lane p t) k) * y (ix2 k (lane h s))) ?_ ?_
  · rw [← ofBits0]
    simp only [nnMm, pointwise]
  · rw [sum_lane]
    simp only [hx _ _ _ _, hy _ _ _ _, ← EReal.coe_mul, ← coe_sum, EReal.coe_zero, zero_add]

theorem is2_mm {g : Fin 2 → Fin 64 → Fin 2 → Fin 64 → ℝ} {x : FVec Ideal S64x128 .bf16} {y : FVec Ideal S128x128 .bf16}
    (hx : Is2 x f) (hy : Is4 y g) :
    Is2 (matmul dot_S64x128_S128x128_S64x128_1_0_0_1_n_n none x y (constant S64x128 .f32 0x00000000#32))
      fun h t n => ∑ h', ∑ s, f h' t s * g h' s h n := by
  intro h t n
  refine Eq.trans (b := ((0 : ℝ) : EReal) + ∑ k : Fin 128, x (ix2 t k) * y (ix2 k (lane h n))) ?_ ?_
  · rw [← ofBits0]
    simp only [pointwise]
  · rw [sum_lane]
    simp only [hx _ _ _, hy _ _ _ _, ← EReal.coe_mul, ← coe_sum, EReal.coe_zero, zero_add]

theorem is2_mmBd {x y : FVec Ideal S64x128 .f32} (hx : Is2 x f) (hy : Is2 y g) :
    Is2 (mmBd x y) fun h t n => ∑ s, f h t s * g h s n := by
  refine (is2_mm (is2_trunc _ hx) (is4_bd hy)).congr fun h t n => ?_
  rw [Finset.sum_eq_single h]
  · simp
  · intro b _ hb; simp [Ne.symm hb]
  · simp

theorem is2_top {f : Fin 2 → Fin 64 → Fin 2 → Fin 64 → ℝ} {x : FVec Ideal S128x128 .f32} (hx : Is4 x f) :
    Is2 (top x) fun h t n => f 0 t h n := fun h t n => by
  refine (extractStridedSlice_apply _ x _ _ (ix2 (lane 0 t) (lane h n)) ?_).trans (hx 0 t h n)
  intro a; fin_cases a
  · simp [lane]
  · simp

theorem is2_bot {f : Fin 2 → Fin 64 → Fin 2 → Fin 64 → ℝ} {x : FVec Ideal S128x128 .f32} (hx : Is4 x f) :
    Is2 (bot x) fun h t n => f 1 t h n := fun h t n => by
  refine (extractStridedSlice_apply _ x _ _ (ix2 (lane 1 t) (lane h n)) ?_).trans (hx 1 t h n)
  intro a; fin_cases a
  · simp [lane]
  · simp

theorem is2_bcast {f : Fin 2 → Fin 64 → ℝ} {x : FVec Ideal S1x128 .f32} (hx : Is1 x f) :
    Is2 (broadcastTo S64x128 x broadcasts_S1x128_S64x128) fun h _ n => f h n := fun h t n => by
  refine (broadcastTo_apply x _ _ (ix2 0 (lane h n)) ?_).trans (hx h n)
  intro a; fin_cases a <;> rfl

theorem is4_bcast {f : Fin 2 → Fin 64 → ℝ} {x : FVec Ideal S1x128 .f32} (hx : Is1 x f) :
    Is4 (broadcastTo S128x128 x broadcasts_S1x128_S128x128) fun _ _ h n => f h n := fun p t h n => by
  refine (broadcastTo_apply x _ _ (ix2 0 (lane h n)) ?_).trans (hx h n)
  intro a; fin_cases a <;> rfl

theorem is4_transpose {f : Fin 2 → Fin 64 → Fin 2 → Fin 64 → ℝ} {x : FVec Ideal S128x128 .f32} (hx : Is4 x f) :
    Is4 (transpose S128x128 [1, 0] x transposes_S128x128_p1_0_S128x128) fun p t h n => f h n p t := fun p t h n => by
  refine (transpose_apply [1, 0] x _ _ (ix2 (lane h n) (lane p t)) ?_).trans (hx h n p t)
  intro a; fin_cases a <;> rfl

theorem is1_row {x : FVec Ideal S64x128 .f32} (hx : Is2 x f) :
    Is1 (extractStridedSlice S1x128 ![63, 0] x slices_S64x128_o63_0_S1x128) fun h n => f h 63 n := fun h n => by
  refine (extractStridedSlice_apply _ x _ _ (ix2 63 (lane h n)) ?_).trans (hx h 63 n)
  intro a; fin_cases a
  · rfl
  · simp

theorem is1_exp {f : Fin 2 → Fin 64 → ℝ} {x : FVec Ideal S1x128 .f32} (hx : Is1 x f) : Is1 (exp x) fun h n => Real.exp (f h n) :=
  fun h n => by rw [← Ideal.exp_coe, ← hx]; rfl

end ops

end Cert.Pack

end
-- ==== Proof.PackValue.lean ====
/- One pack of one chunk, on real inputs, computes the chunk form of the recurrence for each of its two heads. -/
module

public import proofs.«01_k».proof.Proof.Real
public import proofs.«01_k».proof.Proof.Chunk

@[expose] public section

noncomputable section

namespace Cert.Pack

open Idealize.ShloMosaic Cert.KernelIdeal Cert.KernelIdeal.Facts Cert.KernelIdeal.Gen Cert.Chunk

/-- The state of a pack: one head's state on each diagonal block. -/
def IsS (s : FVec Ideal S1x128x128 .f32) (S : Fin 2 → Mat) : Prop :=
  ∀ p i h n, s (ix3 0 (lane p i) (lane h n)) = (((if p = h then S p i n else 0 : ℝ)) : EReal)

/-- A pack's loads hold the inputs of two heads. -/
structure Loads (r k v kk g : FVec Ideal S64x128 .bf16) (lw : FVec Ideal S64x128 .f32) (ka : FVec Ideal S1x128 .f32)
    (s : FVec Ideal S1x128x128 .f32) (X : Fin 2 → In) : Prop where
  hr : Is2 r fun h => (X h).r
  hk : Is2 k fun h => (X h).k
  hv : Is2 v fun h => (X h).v
  hkk : Is2 kk fun h => (X h).kk
  hg : Is2 g fun h => (X h).g
  hlw : Is2 lw fun h => (X h).lw
  hka : Is1 ka fun h => (X h).ka
  hs : IsS s fun h => (X h).S

theorem is4_state {s : FVec Ideal S1x128x128 .f32} {S : Fin 2 → Mat} (hs : IsS s S) :
    Is4 (shapeCast S128x128 s shapeCasts_S1x128x128_S128x128) fun p i h n => if p = h then S p i n else 0 := fun p i h n => by
  refine (shapeCast_dropUnit_apply ![128, 128] s _ _).trans ?_
  refine Eq.trans (congrArg s ?_) (hs p i h n)
  funext a; fin_cases a <;> rfl

/-- The zeros are a state. -/
theorem isS_zero (s : FVec Ideal S1x128x128 .f32) (h : ∀ i, s i = ((0 : ℝ) : EReal)) : IsS s fun _ _ _ => 0 :=
  fun p i a n => (h _).trans (by simp)

/-- The triangle of ones against the log decays and what rounding them leaves. -/
theorem is2_tri : Is2 (k0_pay3 (F := Ideal)) fun _ t s => if s ≤ t then 1 else 0 := by
  have hs : ∀ t s : Fin 64, select (cmpi .sle (iota .tc S64x64 32 [1] iota_S64x64_d1_w32) (iota .tc S64x64 32 [0] iota_S64x64_d0_w32))
      (broadcast S64x64 (Scalar.ofBits (F := Ideal) .f32 0x3F800000#32)) (broadcast S64x64 (Scalar.ofBits (F := Ideal) .f32 0x00000000#32)) (ix2 t s)
      = (((if s ≤ t then 1 else 0 : ℝ)) : EReal) := by
    intro t s
    refine Eq.trans (b := Scalar.select (IntOp.cmpi .sle (iota .tc S64x64 32 [1] iota_S64x64_d1_w32 (ix2 t s))
      (iota .tc S64x64 32 [0] iota_S64x64_d0_w32 (ix2 t s))) (Scalar.ofBits (F := Ideal) .f32 0x3F800000#32) (Scalar.ofBits (F := Ideal) .f32 0x00000000#32)) rfl ?_
    rw [show iota .tc S64x64 32 [1] iota_S64x64_d1_w32 (ix2 t s) = wd s from iota_single_apply _ _ _ _ _ _,
      show iota .tc S64x64 32 [0] iota_S64x64_d0_w32 (ix2 t s) = wd t from iota_single_apply _ _ _ _ _ _, w_sle, sel, ofBits0, ofBits1]
    by_cases h : s ≤ t <;> simp [h]
  intro h t s
  fin_cases h
  · refine (concatenate_pair_apply_left (t := S64x128) (s₁ := S64x64) (s₂ := S64x64) 1 _ _ concatenates_S64x64_S64x64_S64x128_d1 (ix2 t (lane 0 s)) rfl (ix2 t s) ?_).trans (hs t s)
    intro b; fin_cases b
    · rfl
    · simp [lane]
  · refine (concatenate_pair_apply_right (t := S64x128) (s₁ := S64x64) (s₂ := S64x64) 1 _ _ concatenates_S64x64_S64x64_S64x128_d1 (ix2 t (lane 1 s)) rfl rfl (ix2 t s) ?_ ?_).trans (hs t s)
    · intro b hb; fin_cases b
      · rfl
      · exact absurd rfl hb
    · show s.val + 64 = 64 * 1 + s.val
      omega

section
variable {r k v kk g : FVec Ideal S64x128 .bf16} {lw : FVec Ideal S64x128 .f32} {ka : FVec Ideal S1x128 .f32}
  {s : FVec Ideal S1x128x128 .f32} {X : Fin 2 → In}

theorem v_cl (H : Loads r k v kk g lw ka s X) : Is2 (cl lw) fun h => (X h).cl := by
  refine (is2_mm is2_tri (is4_stack (is2_trunc _ H.hlw) (is2_trunc _ (is2_sub H.hlw (is2_ext _ (is2_trunc _ H.hlw)))))).congr ?_
  intro h t n
  simp [Fin.sum_univ_two, In.cl]

theorem v_tot (H : Loads r k v kk g lw ka s X) : Is1 (tot lw) fun h => (X h).tot := is1_row (v_cl H)

theorem v_eneg (H : Loads r k v kk g lw ka s X) : Is2 (eneg lw) fun h t n => Real.exp (-(X h).cl t n) :=
  (is2_exp (is2_sub is2_zeros (v_cl H))).congr fun h t n => by rw [zero_sub]

theorem v_kd (H : Loads r k v kk g lw ka s X) : Is2 (kd k g ka) fun h => (X h).kd :=
  is2_mul (is2_ext _ H.hk) (is2_add is2_ones (is2_mul (is2_sub (is2_ext _ H.hg) is2_ones) (is2_bcast H.hka)))

theorem v_b (H : Loads r k v kk g lw ka s X) : Is2 (bq kk g) fun h => (X h).b := is2_mul (is2_ext _ H.hkk) (is2_ext _ H.hg)

theorem v_lhs (H : Loads r k v kk g lw ka s X) :
    Is4 (lhs r kk lw) fun p t h n => if p = 0 then (X h).A t n else (X h).R t n :=
  (is4_trunc _ (is4_stack (is2_mul (is2_sub is2_zeros (is2_ext _ H.hkk)) (is2_exp (is2_sub (v_cl H) H.hlw)))
    (is2_mul (is2_ext _ H.hr) (is2_exp (v_cl H))))).congr fun p t h n => by simp only [zero_sub]; rfl

/-- The left side against the block diagonal of `Y`, rows against rows. -/
theorem v_nt (H : Loads r k v kk g lw ka s X) {y : FVec Ideal S64x128 .f32} {Y : Fin 2 → Mat} (hy : Is2 y Y) :
    Is4 (ntMm (lhs r kk lw) (bd y)) fun p t h s => if p = 0 then nt (X h).A (Y h) t s else nt (X h).R (Y h) t s :=
  (is4_nt (v_lhs H) (is4_bd hy)).congr fun p t h s => by
    rw [Finset.sum_eq_single h]
    · by_cases hp : p = 0 <;> simp [hp, nt]
    · intro b _ hb; simp [hb]
    · simp

theorem v_mb (H : Loads r k v kk g lw ka s X) :
    Is4 (mb r kk g lw) fun p t h s => if p = 0 then nt (X h).A (X h).bt t s else nt (X h).R (X h).bt t s :=
  v_nt H (is2_mul (v_b H) (v_eneg H))

theorem v_mk (H : Loads r k v kk g lw ka s X) :
    Is4 (mk r k kk g lw ka) fun p t h s => if p = 0 then nt (X h).A (X h).kt t s else nt (X h).R (X h).kt t s :=
  v_nt H (is2_mul (v_kd H) (v_eneg H))

theorem v_wy (H : Loads r k v kk g lw ka s X) :
    Is4 (wy r k v kk g lw ka) fun p t h i => if p = 0 then nn (strict (nt (X h).A (X h).kt)) (X h).v t i
      else nn (incl (nt (X h).R (X h).kt)) (X h).v t i :=
  (is4_nn (is4_trunc _ (is4_select (fun q t h n => m7 q t h n) (v_mk H))) (is4_bd (is2_ext _ H.hv))).congr fun p t h i => by
    rw [Finset.sum_eq_single h]
    · by_cases hp : p = 0
      · subst hp; simp [nn, strict]
      · have : p = 1 := by omega
        subst this; simp [nn, incl, le_iff_lt_or_eq]
    · intro b _ hb; simp [Ne.symm hb]
    · simp

theorem v_mab (H : Loads r k v kk g lw ka s X) : Is2 (mab r kk g lw) fun h => (X h).M :=
  (is2_keep (fun h t n => m5 t h n) (is2_top (v_mb H))).congr fun h t n => by simp [In.M, strict]

theorem v_ag (H : Loads r k v kk g lw ka s X) :
    Is4 (ag r kk lw s) fun p t h i => if p = 0 then nt (X h).A (X h).S t i else nt (X h).R (X h).S t i :=
  (is4_nt (v_lhs H) (is4_trunc _ (is4_state H.hs))).congr fun p t h i => by
    rw [Finset.sum_eq_single h]
    · by_cases hp : p = 0 <;> simp [hp, nt]
    · intro b _ hb; simp [Ne.symm hb]
    · simp

end

section
variable {m : FVec Ideal S64x128 .f32} {M : Fin 2 → Mat}

theorem v_t0 (hm : Is2 m M) : Is2 (t0 m) fun h => tinv (M h) 0 :=
  (is2_add (is2_select (fun h t n => m8 t h n) is2_ones is2_zeros) (is2_keep (fun h t n => m9 t h n) hm)).congr
    fun h t n => by
      simp only [tinv, level, decide_eq_true_eq]
      by_cases e : n = t
      · subst e; simp
      · rw [if_neg e, if_neg (Ne.symm e)]

/-- One level of the inverse. -/
theorem v_lvl (l : ℕ) {c : IVec S64x128 1} {t : FVec Ideal S64x128 .f32}
    (hc : ∀ (a : Fin 64) (h : Fin 2) (n : Fin 64), c (ix2 a (lane h n))
      = bit (decide (a.val >>> (l + 1 + 1) = n.val >>> (l + 1 + 1) ∧ a.val >>> (l + 1) ≠ n.val >>> (l + 1))))
    (hm : Is2 m M) (ht : Is2 t fun h => tinv (M h) l) : Is2 (lvl c m t) fun h => tinv (M h) (l + 1) :=
  (is2_add ht (is2_mmBd (is2_mmBd ht (is2_keep (fun h a n => hc a h n) hm)) ht)).congr
    fun h t n => by simp only [tinv, level, nn, decide_eq_true_eq]

theorem v_t5 (hm : Is2 m M) : Is2 (t5 m) fun h => tinv (M h) 5 :=
  v_lvl 4 m14 hm (v_lvl 3 m13 hm (v_lvl 2 m12 hm (v_lvl 1 m11 hm (v_lvl 0 m10 hm (v_t0 hm)))))

end

section
variable {r k v kk g : FVec Ideal S64x128 .bf16} {lw : FVec Ideal S64x128 .f32} {ka : FVec Ideal S1x128 .f32}
  {s : FVec Ideal S1x128x128 .f32} {X : Fin 2 → In}

theorem v_u (H : Loads r k v kk g lw ka s X) : Is2 (u r k v kk g lw ka s) fun h => (X h).u :=
  (is2_mmBd (v_t5 (v_mab H)) (is2_add (is2_top (v_ag H)) (is2_top (v_wy H)))).congr fun h t n => by
    simp [In.u, In.f, nn]

/-- The pack's result is the chunk form's. -/
theorem v_y (H : Loads r k v kk g lw ka s X) : Is2 (y r k v kk g lw ka s) fun h => (X h).y :=
  (is2_trunc _ (is2_add (is2_add (is2_bot (v_ag H)) (is2_mmBd (is2_keep (fun h t n => m6 t h n) (is2_bot (v_mb H))) (v_u H)))
    (is2_bot (v_wy H)))).congr fun h t n => by simp [In.y, nn, incl]

theorem v_eend (H : Loads r k v kk g lw ka s X) : Is2 (eend lw) fun h t n => Real.exp ((X h).tot n - (X h).cl t n) :=
  is2_exp (is2_sub (is2_bcast (v_tot H)) (v_cl H))

/-- The pack's state after the chunk is the chunk form's. -/
theorem v_s' (H : Loads r k v kk g lw ka s X) : IsS (s' r k v kk g lw ka s) fun h => (X h).S' := by
  have h1 := is4_trunc (ψ := .bf16) bitsLt_bf16_f32 (is4_transpose (is4_stack (v_u H) (is2_ext bitsLt_bf16_f32 H.hv)))
  have h2 := is4_trunc (ψ := .bf16) bitsLt_bf16_f32 (is4_stack (is2_mul (v_b H) (v_eend H)) (is2_mul (v_kd H) (v_eend H)))
  have h3 := (is4_add (is4_mul (is4_state H.hs) (is4_bcast (is1_exp (v_tot H)))) (is4_select (fun q t h n => m15 q t h n) (is4_nn h1 h2)))
  intro p i h n
  refine Eq.trans ?_ ((h3 p i h n).trans ?_)
  · refine (shapeCast_addUnit_apply ![128, 128]
      (addf (mulf (shapeCast S128x128 s shapeCasts_S1x128x128_S128x128) (broadcastTo S128x128 (exp (tot lw)) broadcasts_S1x128_S128x128))
        (select k0_pay15 (nnMm _ _) (broadcast S128x128 (Scalar.ofBits (F := Ideal) .f32 0x00000000#32)))) shapeCasts_S128x128_S1x128x128
      (ix3 0 (lane p i) (lane h n))).trans (congrArg _ ?_)
    funext a; fin_cases a <;> rfl
  · by_cases e : p = h
    · subst e
      simp [Fin.sum_univ_two, In.S']
    · simp [e]

end

end Cert.Pack

end
-- ==== Proof.KernelValue.lean ====
/- The kernel's result array: the grid's points carried in order, chunk after chunk of every batch and half of the heads. -/
module

public import proofs.«01_k».proof.Proof.Spec
public import proofs.«01_k».proof.Proof.Pieces
public import proofs.«01_k».proof.Proof.PackValue
public import proofs.«01_k».proof.Proof.Gen.KernelIdeal.Value
public import Idealize.ShloMosaic.Lib.Pipeline.ValueKit.Geometry
public import Idealize.ShloMosaic.Lib.Pipeline.ValueKit.Point

@[expose] public section

noncomputable section

namespace Cert.KernelIdeal.Value

open Idealize.ShloMosaic Idealize.ShloMosaic.TcCoe Idealize.SL.Sem Cert.KernelIdeal Cert.KernelIdeal.Gen
open Idealize.ShloMosaic.Pipeline (Dat)
open Cert.Chunk Cert.Pack Cert.Pieces Cert.Spec

variable (m : (ℓ : Loc nD τ sig) → Buf (Elt Ideal) ℓ) (c : Dev nD)

/-- The argument arrays of a device. -/
def args : Spec.Args :=
  ⟨V m c main_arg0, V m c main_arg1, V m c main_arg2, V m c main_arg3, V m c main_arg4, V m c main_arg5, V m c main_arg6⟩

/-- The row block of a point. -/
def rb (t : ℕ) : ℕ := if t % 132 < 4 then 256 + 4 * (t / 264) + t % 132 else 128 * (t / 264) + (t % 132 - 4)

theorem ix0 : ∀ t : Fin cfg0.N, win0_0.index t = ![rb t.val, t.val / 132 % 2] :=
  (by decide +kernel : ∀ t : Fin grid0.N, win0_0.index t = ![rb t.val, t.val / 132 % 2])
theorem ix1 : ∀ t : Fin cfg0.N, win0_1.index t = ![rb t.val, t.val / 132 % 2] :=
  (by decide +kernel : ∀ t : Fin grid0.N, win0_1.index t = ![rb t.val, t.val / 132 % 2])
theorem ix2' : ∀ t : Fin cfg0.N, win0_2.index t = ![rb t.val, t.val / 132 % 2] :=
  (by decide +kernel : ∀ t : Fin grid0.N, win0_2.index t = ![rb t.val, t.val / 132 % 2])
theorem ix3' : ∀ t : Fin cfg0.N, win0_3.index t = ![rb t.val, t.val / 132 % 2] :=
  (by decide +kernel : ∀ t : Fin grid0.N, win0_3.index t = ![rb t.val, t.val / 132 % 2])
theorem ix4 : ∀ t : Fin cfg0.N, win0_4.index t = ![rb t.val, t.val / 132 % 2] :=
  (by decide +kernel : ∀ t : Fin grid0.N, win0_4.index t = ![rb t.val, t.val / 132 % 2])
theorem ix5 : ∀ t : Fin cfg0.N, win0_5.index t = ![rb t.val, t.val / 132 % 2] :=
  (by decide +kernel : ∀ t : Fin grid0.N, win0_5.index t = ![rb t.val, t.val / 132 % 2])
theorem ix6 : ∀ t : Fin cfg0.N, win0_6.index t = ![0, t.val / 132 % 2] :=
  (by decide +kernel : ∀ t : Fin grid0.N, win0_6.index t = ![0, t.val / 132 % 2])
theorem ix7 : ∀ t : Fin cfg0.N, win0_7.index t = ![rb t.val, t.val / 132 % 2] :=
  (by decide +kernel : ∀ t : Fin grid0.N, win0_7.index t = ![rb t.val, t.val / 132 % 2])

/-- A point's head and first token. -/
def hd (t : ℕ) (q : Fin 16) (h : Fin 2) : ℕ := 32 * (t / 132 % 2) + 2 * q.val + h.val
def fst (t : ℕ) : ℕ := 64 * (t % 132)

theorem row_rb {t : ℕ} (ht : t < 528) (s : Fin 64) : rb t * 64 + s.val = row (t / 264) (fst t + s.val) := by
  have := s.isLt
  unfold rb row fst; split_ifs <;> omega

theorem rq_emb0 (q : Fin 16) (s : Fin 64) (l : Fin 128) : ((rq q).emb (ix2 s l) 0).val = s.val := by
  show 0 + 1 * s.val = _; omega
theorem rq_emb1 (q : Fin 16) (s : Fin 64) (l : Fin 128) : ((rq q).emb (ix2 s l) 1).val = 128 * q.val + l.val := by
  show 128 * q.val + 1 * l.val = _; omega
theorem rk_emb1 (q : Fin 16) (x : S1x128.Idx) : ((rk q).emb x 1).val = 128 * q.val + (x 1).val := by
  show 128 * q.val + 1 * (x 1).val = _; omega

theorem lane_val (h : Fin 2) (n : Fin 64) : (lane h n).val = 64 * h.val + n.val := rfl

section block

variable {m c} (H : (Value.args m c).Real) (t : Fin cfg0.N) (q : Fin 16)

/-- A pack of a block that shows an array at the point's rows and columns. -/
theorem is2_block {φ : FTy} {x : SA.Idx → EReal} (hx : ∀ i, ∃ z : ℝ, x i = (z : EReal)) (e : S64x2048.Idx → SA.Idx)
    (h0 : ∀ j, (e j 0).val = rb t.val * 64 + (j 0).val) (h1 : ∀ j, (e j 1).val = t.val / 132 % 2 * 2048 + (j 1).val)
    (y : S64x2048.Idx → EReal) (hy : ∀ j, y j = x (e j)) :
    Is2 (φ := φ) (fun i : S64x128.Idx => y ((rq q).emb i)) fun h s n => Spec.sq x (t.val / 264) (hd t.val q h) (fst t.val + s.val) n := by
  intro h s n
  have ht : t.val < 528 := t.isLt
  refine (hy ((rq q).emb (ix2 s (lane h n)))).trans (sq_eq hx _ ?_ ?_)
  · exact (h0 _).trans ((congrArg (rb t.val * 64 + ·) (rq_emb0 q s (lane h n))).trans (row_rb ht s))
  · refine (h1 _).trans ((congrArg (t.val / 132 % 2 * 2048 + ·) (rq_emb1 q s (lane h n))).trans ?_)
    show t.val / 132 % 2 * 2048 + (128 * q.val + (64 * h.val + n.val)) = _
    unfold hd; omega

theorem is1_block (hx : ∀ i, ∃ z : ℝ, (Value.args m c).ka i = (z : EReal)) :
    Is1 (ldk (iblk m c 6 t) q) fun h n => sk (Value.args m c).ka (hd t.val q h) n := by
  intro h n
  refine sk_eq hx (((cfg0.win 6).blk t).view.emb ((rk q).emb (ix2 0 (lane h n)))) ?_
  blk_simp [ix6]
  refine (congrArg (t.val / 132 % 2 * 2048 + ·) (rk_emb1 q (ix2 0 (lane h n)))).trans ?_
  show t.val / 132 % 2 * 2048 + (128 * q.val + (64 * h.val + n.val)) = _
  unfold hd; omega

/-- The inputs of a pack's two heads at a point. -/
def X (A : Spec.Args) (t : ℕ) (q : Fin 16) (h : Fin 2) : In :=
  ofSeq (fun s => Spec.sq A.r (t / 264) (hd t q h) (fst t + s)) (fun s => Spec.sq A.k (t / 264) (hd t q h) (fst t + s))
    (fun s => Spec.sq A.v (t / 264) (hd t q h) (fst t + s)) (fun s => Spec.sq A.kk (t / 264) (hd t q h) (fst t + s))
    (fun s => Spec.sq A.g (t / 264) (hd t q h) (fst t + s)) (fun s => Spec.sq A.lw (t / 264) (hd t q h) (fst t + s))
    (sk A.ka (hd t q h)) (A.S (t / 264) (hd t q h) (fst t))

theorem S_add (A : Spec.Args) (b p o s : ℕ) : A.S b p (o + s) = state (fun s => Spec.sq A.k b p (o + s)) (fun s => Spec.sq A.v b p (o + s))
    (fun s => Spec.sq A.kk b p (o + s)) (fun s => Spec.sq A.g b p (o + s)) (fun s => Spec.sq A.lw b p (o + s)) (sk A.ka p) (A.S b p o) s :=
  st_add _ _ _ _ _ _ o s

theorem X_y (A : Spec.Args) (t : ℕ) (q : Fin 16) (h : Fin 2) (s i : Fin 64) :
    (X A t q h).y s i = A.y (t / 264) (hd t q h) (fst t + s.val) i := by
  unfold X Spec.Args.y
  rw [y_eq, Nat.add_assoc, S_add]

theorem X_S' (A : Spec.Args) (t : ℕ) (q : Fin 16) (h : Fin 2) :
    (X A t q h).S' = A.S (t / 264) (hd t q h) (fst t + 64) := by
  unfold X
  rw [S'_eq, S_add]

include H in
theorem loads (s : FVec Ideal S1x128x128 .f32) (hs : IsS s fun h => (Value.args m c).S (t.val / 264) (hd t.val q h) (fst t.val)) :
    Loads (ldq (iblk m c 0 t) q) (ldq (iblk m c 1 t) q) (ldq (iblk m c 2 t) q) (ldq (iblk m c 3 t) q)
      (ldq (iblk m c 4 t) q) (ldq (iblk m c 5 t) q) (ldk (iblk m c 6 t) q) s (X (Value.args m c) t.val q) where
  hr := is2_block (φ := .bf16) t q H.r (fun j => ((cfg0.win 0).blk t).view.emb j) (fun j => by blk_simp [ix0]) (fun j => by blk_simp [ix0]) _ fun j => rfl
  hk := is2_block (φ := .bf16) t q H.k (fun j => ((cfg0.win 1).blk t).view.emb j) (fun j => by blk_simp [ix1]) (fun j => by blk_simp [ix1]) _ fun j => rfl
  hv := is2_block (φ := .bf16) t q H.v (fun j => ((cfg0.win 2).blk t).view.emb j) (fun j => by blk_simp [ix2']) (fun j => by blk_simp [ix2']) _ fun j => rfl
  hkk := is2_block (φ := .bf16) t q H.kk (fun j => ((cfg0.win 3).blk t).view.emb j) (fun j => by blk_simp [ix3']) (fun j => by blk_simp [ix3']) _ fun j => rfl
  hg := is2_block (φ := .bf16) t q H.g (fun j => ((cfg0.win 4).blk t).view.emb j) (fun j => by blk_simp [ix4]) (fun j => by blk_simp [ix4]) _ fun j => rfl
  hlw := is2_block (φ := .f32) t q H.lw (fun j => ((cfg0.win 5).blk t).view.emb j) (fun j => by blk_simp [ix5]) (fun j => by blk_simp [ix5]) _ fun j => rfl
  hka := is1_block t q H.ka
  hs := hs

/-- The state's zeros. -/
theorem isS_reset (h0 : t.val % 132 = 0) : IsS (lds (k0_pay2 (F := Ideal)) q) fun h => (Value.args m c).S (t.val / 264) (hd t.val q h) (fst t.val) := by
  have e : fst t.val = 0 := by unfold fst; omega
  rw [e]
  exact isS_zero _ fun i => ofBits0

include H in
/-- The state each point leaves. -/
theorem carry (n : ℕ) : ∀ (hn : n < cfg0.N) (q : Fin 16),
    IsS (lds (outsAt0 m c n hn).2 q) fun h => (Value.args m c).S (n / 264) (hd n q h) (fst n + 64) := by
  induction n using Nat.strong_induction_on with
  | _ n ih =>
    intro hn q
    have key : ∀ s, IsS s (fun h => (Value.args m c).S (n / 264) (hd n q h) (fst n)) →
        IsS (Pieces.sq (iblk m c 0 ⟨n, hn⟩) (iblk m c 1 ⟨n, hn⟩) (iblk m c 2 ⟨n, hn⟩) (iblk m c 3 ⟨n, hn⟩) (iblk m c 4 ⟨n, hn⟩)
          (iblk m c 5 ⟨n, hn⟩) (iblk m c 6 ⟨n, hn⟩) s q) fun h => (Value.args m c).S (n / 264) (hd n q h) (fst n + 64) := fun s hs => by
      have := v_s' (loads H ⟨n, hn⟩ q s hs)
      simp only [X_S'] at this
      exact this
    by_cases h0 : n % 132 = 0
    · have e := outsAt0_A (F := Ideal) m c ⟨n, hn⟩ h0
      intro p i h l
      refine Eq.trans ?_ (key _ (isS_reset ⟨n, hn⟩ q h0) p i h l)
      refine (congrArg (fun z => z.2 ((rs q).emb (ix3 0 (lane p i) (lane h l)))) e).trans ?_
      dsimp only
      exact sout_A (F := Ideal) _ _ _ _ _ _ _ _ _ _ _ _ _ _ _ _ _ _ _ _ _ _ _ _ _ _ _ _ q (ix3 0 (lane p i) (lane h l))
    · have e := outsAt0_B (F := Ideal) m c ⟨n, hn⟩ h0
      have hp := ih (n - 1) (by omega) (by omega) q
      have e1 : (n - 1) / 264 = n / 264 := by omega
      have e2 : ∀ h, hd (n - 1) q h = hd n q h := fun h => by unfold hd; omega
      have e3 : fst (n - 1) + 64 = fst n := by unfold fst; omega
      simp only [e1, e2, e3] at hp
      intro p i h l
      refine Eq.trans ?_ (key _ hp p i h l)
      refine (congrArg (fun z => z.2 ((rs q).emb (ix3 0 (lane p i) (lane h l)))) e).trans ?_
      dsimp only
      exact sout_B (F := Ideal) _ _ _ _ _ _ _ _ _ _ _ _ _ _ _ _ _ _ _ _ _ _ _ _ _ _ _ _ _ q (ix3 0 (lane p i) (lane h l))

include H in
/-- The result each point leaves. -/
theorem result (h : Fin 2) (s i : Fin 64) : (outsAt0 m c t.val t.isLt).1 ((rq q).emb (ix2 s (lane h i)))
    = (((Value.args m c).y (t.val / 264) (hd t.val q h) (fst t.val + s.val) i : ℝ) : EReal) := by
  obtain ⟨n, hn⟩ := t
  have key : ∀ s, IsS s (fun h => (Value.args m c).S (n / 264) (hd n q h) (fst n)) →
      Is2 (Pieces.yq (iblk m c 0 ⟨n, hn⟩) (iblk m c 1 ⟨n, hn⟩) (iblk m c 2 ⟨n, hn⟩) (iblk m c 3 ⟨n, hn⟩) (iblk m c 4 ⟨n, hn⟩)
        (iblk m c 5 ⟨n, hn⟩) (iblk m c 6 ⟨n, hn⟩) s q) fun h s i => (Value.args m c).y (n / 264) (hd n q h) (fst n + s.val) i := fun s hs => by
    have := v_y (loads H ⟨n, hn⟩ q s hs)
    exact this.congr fun h t i => X_y _ _ _ _ _ _
  by_cases h0 : n % 132 = 0
  · have e := outsAt0_A (F := Ideal) m c ⟨n, hn⟩ h0
    refine Eq.trans ?_ (key _ (isS_reset ⟨n, hn⟩ q h0) h s i)
    refine (congrArg (fun z => z.1 ((rq q).emb (ix2 s (lane h i)))) e).trans ?_
    dsimp only
    exact out_A (F := Ideal) _ _ _ _ _ _ _ _ _ _ _ _ _ _ _ _ _ _ _ _ _ _ _ _ _ _ _ _ q (ix2 s (lane h i))
  · have e := outsAt0_B (F := Ideal) m c ⟨n, hn⟩ h0
    have hp := carry H (n - 1) (by omega) q
    have e1 : (n - 1) / 264 = n / 264 := by omega
    have e2 : ∀ h, hd (n - 1) q h = hd n q h := fun h => by unfold hd; omega
    have e3 : fst (n - 1) + 64 = fst n := by unfold fst; omega
    simp only [e1, e2, e3] at hp
    refine Eq.trans ?_ (key _ hp h s i)
    refine (congrArg (fun z => z.1 ((rq q).emb (ix2 s (lane h i)))) e).trans ?_
    dsimp only
    exact out_B (F := Ideal) _ _ _ _ _ _ _ _ _ _ _ _ _ _ _ _ _ _ _ _ _ _ _ _ _ _ _ _ _ q (ix2 s (lane h i))

include H in
/-- The whole result array. -/
theorem final : (dats m 0 c).arrAt 7 cfg0.N = (Value.args m c).out := by
  refine (dats m 0 c).arrAt_eq_of_covers 7 _ (by decide +kernel) fun t hf y => ?_
  have hy : ∃ (q : Fin 16) (s : Fin 64) (h : Fin 2) (i : Fin 64), y = (rq q).emb (ix2 s (lane h i)) := by
    have h0 : (y 0).val < 64 := (y 0).isLt
    have h1 : (y 1).val < 2048 := (y 1).isLt
    refine ⟨⟨(y 1).val / 128, by omega⟩, ⟨(y 0).val, h0⟩, ⟨(y 1).val / 64 % 2, by omega⟩, ⟨(y 1).val % 64, by omega⟩, ?_⟩
    funext a; apply Fin.ext; fin_cases a
    · exact (rq_emb0 _ _ _).symm
    · refine Eq.trans ?_ (rq_emb1 _ _ _).symm
      rw [lane_val]; show (y 1).val = 128 * ((y 1).val / 128) + (64 * ((y 1).val / 64 % 2) + (y 1).val % 64); omega
  obtain ⟨q, s, h, i, rfl⟩ := hy
  have ht : t.val < 528 := t.isLt
  refine (result H t q h s i).trans (out_eq _ _ ?_ ?_ ?_ ?_).symm
  · omega
  · have := s.isLt; unfold fst; omega
  · blk_simp [ix7]
    exact (congrArg (rb t.val * 64 + ·) (rq_emb0 q s (lane h i))).trans (row_rb ht s)
  · blk_simp [ix7]
    refine (congrArg (t.val / 132 % 2 * 2048 + ·) (rq_emb1 q s (lane h i))).trans ?_
    show t.val / 132 % 2 * 2048 + (128 * q.val + (64 * h.val + i.val)) = _
    unfold hd; omega

end block

end Cert.KernelIdeal.Value
-- ==== Proof.HostRun.lean ====
/- The reference's loop, one trip after another: what a trip leaves is the trip's standalone values of what the trip
   found, and the loop's buffers before the first trip. -/
module

public import proofs.«01_k».proof.Proof.Gen.ReferenceIdeal.Run
public import proofs.«01_k».proof.Proof.Gen.ReferenceIdeal.Step

@[expose] public section

noncomputable section

namespace Cert.HostRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State init)

variable {F : FTy → Type} [FloatOps F] (V0 : Valuation τ sig (Elt F)) (j : ℕ)

/-- What a trip finds. -/
def found : State F :=
  ⟨V0 (Proc.devRef .tc main_v53_7), V0 (Proc.devRef .tc main_v53_8), V0 (Proc.devRef .tc main_v53_0), V0 (Proc.devRef .tc main_v53_1),
    V0 (Proc.devRef .tc main_v53_2), V0 (Proc.devRef .tc main_v53_3), V0 (Proc.devRef .tc main_v53_4), V0 (Proc.devRef .tc main_v53_5)⟩

/-- The trip's number. -/
def Num : Prop := V0 (Proc.devRef .tc main_v53_6) = constantI S_ 32 (BitVec.ofNat 32 j)

variable {V0 j}

set_option maxRecDepth 8192 in
theorem step7 (h : Num V0 j) : step_main_v53_7 V0 = Step.b45 j (found V0) := by
  unfold Num at h
  unfold step_main_v53_7 res_main_while0b_v82
  rw [h]
  rfl

set_option maxRecDepth 8192 in
theorem step8 (h : Num V0 j) : step_main_v53_8 V0 = Step.b51 j (found V0) := by
  have h7 := step7 h
  unfold Num at h
  unfold step_main_v53_7 id at h7
  unfold step_main_v53_8
  rw [h, h7]
  rfl

theorem step6 (h : Num V0 j) : step_main_v53_6 V0 = constantI S_ 32 (BitVec.ofNat 32 (j + 1)) := by
  unfold step_main_v53_6
  rw [h]
  funext i
  show BitVec.ofNat 32 j + 1#32 = BitVec.ofNat 32 (j + 1)
  simp only [BitVec.ofNat_add]

theorem num_step (h : Num V0 j) : Num (STEP V0) (j + 1) := (STEP_main_v53_6 V0).trans (step6 h)

/-- A trip's step of what it finds. -/
theorem found_step (h : Num V0 j) : found (STEP V0) = Step.step j (found V0) := by
  unfold found
  rw [STEP_main_v53_7, STEP_main_v53_8, STEP_main_v53_0, STEP_main_v53_1, STEP_main_v53_2, STEP_main_v53_3, STEP_main_v53_4,
    STEP_main_v53_5, step7 h, step8 h]
  rfl

variable (m : (ℓ : Loc nD τ sig) → Buf (Elt F) ℓ) (c : Dev nD)

/-- What the first trip finds. -/
abbrev start : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

set_option maxRecDepth 65536 in
set_option maxHeartbeats 400000 in
theorem entry6 : Num (entryContents preI m c) 0 := by
  unfold Num; (simp only [entryContents, afterL_cons, afterL_nil]; after_reads_simp) <;> rfl

set_option maxRecDepth 65536 in
set_option maxHeartbeats 1000000 in
theorem entry : found (entryContents preI m c) = start m c := by
  unfold found start init
  congr 1 <;> (simp only [entryContents, afterL_cons, afterL_nil]; after_reads_simp) <;> rfl

/-- What trip `k` finds. -/
theorem found_iter (k : ℕ) : Num (STEP^[k] (entryContents preI m c)) k ∧
    found (STEP^[k] (entryContents preI m c)) = k.rec (start m c) (fun i s => Step.step i s) := by
  induction k with
  | zero => exact ⟨entry6 m c, entry m c⟩
  | succ k ih =>
    rw [Function.iterate_succ_apply']
    exact ⟨num_step ih.1, (found_step ih.1).trans (congrArg (Step.step k) ih.2)⟩

set_option maxRecDepth 8192 in
theorem out_found (V0 : Valuation τ sig (Elt F)) : out_main_v60 V0 = Step.R_main_v60 (found V0) := rfl

end Cert.HostRun
-- ==== Proof.RefValue.lean ====
/- What the reference computes on real arguments: its loop carries the recurrence's state, trip by trip. -/
module

public import proofs.«01_k».proof.Proof.HostRun
public import proofs.«01_k».proof.Proof.Spec
public import Idealize.ShloMosaic.Lib.Pipeline.Value
public import Idealize.ShloMosaic.Lib.Pointwise.Contract
public import Idealize.ShloMosaic.Lib.Pointwise.ElementwiseCore
public import Idealize.ShloMosaic.Lib.Pointwise.ShapeOpsCore
public import Idealize.ShloMosaic.Lib.Pointwise.Reshape
public import Idealize.ShloMosaic.Lib.DynamicIndex

@[expose] public section

noncomputable section

namespace Cert.RefValue

open Idealize.ShloMosaic Cert.ReferenceIdeal Cert.ReferenceIdeal.Gen Cert.Chunk Cert.Spec

/-! ## The rearrangement of the rows -/

/-- The rows by token, batch, head and channel. -/
def heads (x : SA.Idx → EReal) : S8448x2x64x64.Idx → EReal :=
  transpose S8448x2x64x64 [1, 0, 2, 3] (concatenate S2x8448x64x64 1
    [⟨S2x256x64x64, shapeCast _ (extractStridedSlice S512x4096 ![16384, 0] x slices_S16896x4096_S512x4096_16384_0) shapeCasts_S512x4096_S2x256x64x64⟩,
     ⟨S2x8192x64x64, shapeCast _ (extractStridedSlice S16384x4096 ![0, 0] x slices_S16896x4096_S16384x4096_0_0) shapeCasts_S16384x4096_S2x8192x64x64⟩]
    concatenates_S2x256x64x64_S2x8192x64x64_S2x8448x64x64_d1) transposes_S2x8448x64x64_S8448x2x64x64_1_0_2_3

theorem heads_apply (x : SA.Idx → EReal) (τ : Fin 8448) (b : Fin 2) (p n : Fin 64) (k : SA.Idx) (h0 : (k 0).val = row b.val τ.val)
    (h1 : (k 1).val = 64 * p.val + n.val) : heads x (ix4 τ b p n) = x k := by
  have hb := b.isLt
  have hp := p.isLt
  have hn := n.isLt
  have hτ := τ.isLt
  unfold heads
  refine (transpose_apply _ _ _ (ix4 τ b p n) (ix4 b τ p n) (fun a => by fin_cases a <;> rfl)).trans ?_
  unfold row at h0
  by_cases h : τ.val < 256
  · rw [if_pos h] at h0
    refine (concatenate_pair_apply_left (t := S2x8448x64x64) (s₁ := S2x256x64x64) (s₂ := S2x8192x64x64) 1 _ _
      concatenates_S2x256x64x64_S2x8192x64x64_S2x8448x64x64_d1 (ix4 b τ p n) rfl (ix4 b ⟨τ.val, h⟩ p n)
      (fun a => by fin_cases a <;> rfl)).trans ?_
    refine (shapeCast_apply _ _ _ (ix2 ⟨256 * b.val + τ.val, by omega⟩ ⟨64 * p.val + n.val, by omega⟩) ?_).trans ?_
    · refine (rowMajor_val2 _ 4096 rfl).trans (Eq.trans ?_ (rowMajor_val4 _ (256 * 4096) 4096 64 rfl rfl rfl).symm)
      show (256 * b.val + τ.val) * 4096 + (64 * p.val + n.val) = b.val * (256 * 4096) + τ.val * 4096 + p.val * 64 + n.val
      omega
    · refine extractStridedSlice_apply _ _ _ _ k fun a => ?_
      fin_cases a
      · refine h0.trans ?_; show _ = 16384 + (256 * b.val + τ.val); omega
      · refine h1.trans ?_; show _ = 0 + (64 * p.val + n.val); omega
  · rw [if_neg h] at h0
    refine (concatenate_pair_apply_right (t := S2x8448x64x64) (s₁ := S2x256x64x64) (s₂ := S2x8192x64x64) 1 _ _
      concatenates_S2x256x64x64_S2x8192x64x64_S2x8448x64x64_d1 (ix4 b τ p n) rfl rfl (ix4 b ⟨τ.val - 256, by omega⟩ p n) ?_ ?_).trans ?_
    · intro a ha; fin_cases a
      · rfl
      · exact absurd rfl ha
      · rfl
      · rfl
    · show τ.val - 256 + 256 = τ.val; omega
    refine (shapeCast_apply _ _ _ (ix2 ⟨8192 * b.val + (τ.val - 256), by omega⟩ ⟨64 * p.val + n.val, by omega⟩) ?_).trans ?_
    · refine (rowMajor_val2 _ 4096 rfl).trans (Eq.trans ?_ (rowMajor_val4 _ (8192 * 4096) 4096 64 rfl rfl rfl).symm)
      show (8192 * b.val + (τ.val - 256)) * 4096 + (64 * p.val + n.val) = b.val * (8192 * 4096) + (τ.val - 256) * 4096 + p.val * 64 + n.val
      omega
    · refine extractStridedSlice_apply _ _ _ _ k fun a => ?_
      fin_cases a
      · refine h0.trans ?_; show _ = 0 + (8192 * b.val + (τ.val - 256)); omega
      · refine h1.trans ?_; show _ = 0 + (64 * p.val + n.val); omega

/-- The rows put back. -/
theorem back (s : Step.State Ideal) (k : SA.Idx) (τ : Fin 8448) (b : Fin 2) (p n : Fin 64) (h0 : (k 0).val = row b.val τ.val)
    (h1 : (k 1).val = 64 * p.val + n.val) : Step.R_main_v60 s k = s.main_v53_8 (ix4 τ b p n) := by
  have hb := b.isLt
  have hp := p.isLt
  have hn := n.isLt
  have hτ := τ.isLt
  unfold row at h0
  unfold Step.R_main_v60
  by_cases h : τ.val < 256
  · rw [if_pos h] at h0
    refine (concatenate_pair_apply_right (t := S16896x4096) (s₁ := S16384x4096) (s₂ := S512x4096) 0 _ _
      concatenates_S16384x4096_S512x4096_S16896x4096_d0 k rfl rfl (ix2 ⟨256 * b.val + τ.val, by omega⟩ ⟨64 * p.val + n.val, by omega⟩) ?_ ?_).trans ?_
    · intro a ha; fin_cases a
      · exact absurd rfl ha
      · exact h1.symm
    · show 256 * b.val + τ.val + 16384 = (k 0).val; omega
    refine (shapeCast_apply _ _ _ (ix4 b ⟨τ.val, h⟩ p n) ?_).trans ?_
    · refine (rowMajor_val4 _ (256 * 4096) 4096 64 rfl rfl rfl).trans (Eq.trans ?_ (rowMajor_val2 _ 4096 rfl).symm)
      show b.val * (256 * 4096) + τ.val * 4096 + p.val * 64 + n.val = (256 * b.val + τ.val) * 4096 + (64 * p.val + n.val)
      omega
    · refine (extractStridedSlice_apply _ _ _ _ (ix4 b τ p n) fun a => ?_).trans ?_
      · fin_cases a
        · exact (Nat.zero_add _).symm
        · exact (Nat.zero_add _).symm
        · exact (Nat.zero_add _).symm
        · exact (Nat.zero_add _).symm
      · exact transpose_apply _ _ _ (ix4 b τ p n) (ix4 τ b p n) (fun a => by fin_cases a <;> rfl)
  · rw [if_neg h] at h0
    refine (concatenate_pair_apply_left (t := S16896x4096) (s₁ := S16384x4096) (s₂ := S512x4096) 0 _ _
      concatenates_S16384x4096_S512x4096_S16896x4096_d0 k rfl (ix2 ⟨8192 * b.val + (τ.val - 256), by omega⟩ ⟨64 * p.val + n.val, by omega⟩) ?_).trans ?_
    · intro a; fin_cases a
      · exact h0.symm
      · exact h1.symm
    refine (shapeCast_apply _ _ _ (ix4 b ⟨τ.val - 256, by omega⟩ p n) ?_).trans ?_
    · refine (rowMajor_val4 _ (8192 * 4096) 4096 64 rfl rfl rfl).trans (Eq.trans ?_ (rowMajor_val2 _ 4096 rfl).symm)
      show b.val * (8192 * 4096) + (τ.val - 256) * 4096 + p.val * 64 + n.val = (8192 * b.val + (τ.val - 256)) * 4096 + (64 * p.val + n.val)
      omega
    · refine (extractStridedSlice_apply _ _ _ _ (ix4 b τ p n) fun a => ?_).trans ?_
      · fin_cases a
        · exact (Nat.zero_add _).symm
        · show τ.val = 256 + (τ.val - 256); omega
        · exact (Nat.zero_add _).symm
        · exact (Nat.zero_add _).symm
      · exact transpose_apply _ _ _ (ix4 b τ p n) (ix4 τ b p n) (fun a => by fin_cases a <;> rfl)

end Cert.RefValue
-- ==== Proof.RefLoop.lean ====
/- One trip of the reference's loop, on real values, is one token of the recurrence. -/
module

public import proofs.«01_k».proof.Proof.RefValue
public import proofs.«01_k».proof.Proof.Real

@[expose] public section

noncomputable section

namespace Cert.RefValue

open Idealize.ShloMosaic Cert.ReferenceIdeal Cert.ReferenceIdeal.Gen Cert.Chunk Cert.Spec

/-- A trip's rows of an array. -/
theorem rows (x : S8448x2x64x64.Idx → EReal) (j : ℕ) (hj : j < 8448) (z : IVec S_ 32) (hz : z = constantI S_ 32 0#32) (b : Fin 2) (p n : Fin 64) :
    shapeCast S2x64x64 (Host.dynamicSlice S1x2x64x64 x (fun k => (((![constantI S_ 32 (BitVec.ofNat 32 j), z, z, z] : Fin 4 → IVec S_ 32)
      k (Shape.Idx.first h_S_)).toInt)) sliceFits_S8448x2x64x64_S1x2x64x64) shapeCasts_S1x2x64x64_S2x64x64 (ix3 b p n) = x (ix4 ⟨j, hj⟩ b p n) := by
  subst hz
  refine (shapeCast_dropUnit_apply ![2, 64, 64] _ _ _).trans ?_
  refine (congrFun (Host.dynamicSlice_eq_extractStridedSlice S1x2x64x64 x _ ![j, 0, 0, 0] _ ⟨rfl, ?_⟩ ?_) _).trans ?_
  · intro a; fin_cases a
    · show j + 1 ≤ 8448; omega
    · exact Nat.le_refl _
    · exact Nat.le_refl _
    · exact Nat.le_refl _
  · intro a; fin_cases a
    · exact toInt_ofNat_of_lt (by omega)
    · rfl
    · rfl
    · rfl
  · refine extractStridedSlice_apply _ _ _ _ _ fun a => ?_
    fin_cases a
    · rfl
    · exact (Nat.zero_add _).symm
    · exact (Nat.zero_add _).symm
    · exact (Nat.zero_add _).symm

/-- The contraction of a state's columns. -/
theorem dot (x : FVec Ideal S2x64x64x64 .f32) (y : FVec Ideal S2x64x64 .f32) (b : Fin 2) (p i : Fin 64) :
    Host.dotGeneral dot_S2x64x64x64_S2x64x64_S2x64x64_3_2_2_n_01_01 none x y (ix3 b p i) = ∑ m : Fin 64, x (ix4 b p i m) * y (ix3 b p m) := by
  simp only [pointwise]
  exact zero_add _

/-- What the loop has done before trip `k`. -/
structure Done (A : Spec.Args) (k : ℕ) (s : Step.State Ideal) : Prop where
  hr : ∀ (τ : Fin 8448) (b : Fin 2) (p n : Fin 64), s.main_v53_0 (ix4 τ b p n) = ((sq A.r b p τ n : ℝ) : EReal)
  hw : ∀ (τ : Fin 8448) (b : Fin 2) (p n : Fin 64), s.main_v53_1 (ix4 τ b p n) = ((Real.exp (sq A.lw b p τ n) : ℝ) : EReal)
  hk : ∀ (τ : Fin 8448) (b : Fin 2) (p n : Fin 64), s.main_v53_2 (ix4 τ b p n) = ((sq A.k b p τ n * (1 + (sq A.g b p τ n - 1) * sk A.ka p n) : ℝ) : EReal)
  hv : ∀ (τ : Fin 8448) (b : Fin 2) (p n : Fin 64), s.main_v53_3 (ix4 τ b p n) = ((sq A.v b p τ n : ℝ) : EReal)
  ha : ∀ (τ : Fin 8448) (b : Fin 2) (p n : Fin 64), s.main_v53_4 (ix4 τ b p n) = ((-sq A.kk b p τ n : ℝ) : EReal)
  hb : ∀ (τ : Fin 8448) (b : Fin 2) (p n : Fin 64), s.main_v53_5 (ix4 τ b p n) = ((sq A.kk b p τ n * sq A.g b p τ n : ℝ) : EReal)
  hS : ∀ (b : Fin 2) (p i n : Fin 64), s.main_v53_7 (ix4 b p i n) = ((A.S b p k i n : ℝ) : EReal)
  hy : ∀ (τ : Fin 8448) (b : Fin 2) (p i : Fin 64), τ.val < k → s.main_v53_8 (ix4 τ b p i) = ((A.y b p τ i : ℝ) : EReal)

section trip

variable {A : Spec.Args} {j : ℕ} {s : Step.State Ideal} (H : Done A j s) (hj : j < 8448)

include H hj

theorem t4 (b : Fin 2) (p n : Fin 64) : Step.b4 j s (ix3 b p n) = ((sq A.r b p j n : ℝ) : EReal) :=
  (rows _ j hj _ rfl b p n).trans (H.hr ⟨j, hj⟩ b p n)
theorem t9 (b : Fin 2) (p n : Fin 64) : Step.b9 j s (ix3 b p n) = ((Real.exp (sq A.lw b p j n) : ℝ) : EReal) :=
  (rows _ j hj _ rfl b p n).trans (H.hw ⟨j, hj⟩ b p n)
theorem t14 (b : Fin 2) (p n : Fin 64) : Step.b14 j s (ix3 b p n) = ((sq A.k b p j n * (1 + (sq A.g b p j n - 1) * sk A.ka p n) : ℝ) : EReal) :=
  (rows _ j hj _ rfl b p n).trans (H.hk ⟨j, hj⟩ b p n)
theorem t19 (b : Fin 2) (p n : Fin 64) : Step.b19 j s (ix3 b p n) = ((sq A.v b p j n : ℝ) : EReal) :=
  (rows _ j hj _ rfl b p n).trans (H.hv ⟨j, hj⟩ b p n)
theorem t24 (b : Fin 2) (p n : Fin 64) : Step.b24 j s (ix3 b p n) = ((-sq A.kk b p j n : ℝ) : EReal) :=
  (rows _ j hj _ rfl b p n).trans (H.ha ⟨j, hj⟩ b p n)
theorem t29 (b : Fin 2) (p n : Fin 64) : Step.b29 j s (ix3 b p n) = ((sq A.kk b p j n * sq A.g b p j n : ℝ) : EReal) :=
  (rows _ j hj _ rfl b p n).trans (H.hb ⟨j, hj⟩ b p n)

theorem t30 (b : Fin 2) (p i : Fin 64) : Step.b30 j s (ix3 b p i) = ((∑ m, A.S b p j i m * -sq A.kk b p j m : ℝ) : EReal) := by
  refine (dot _ _ b p i).trans ?_
  rw [Pack.coe_sum]
  refine Finset.sum_congr rfl fun m _ => ?_
  rw [H.hS, t24 H hj, EReal.coe_mul]

/-- A trip's new state. -/
theorem t45 (b : Fin 2) (p i n : Fin 64) : Step.b45 j s (ix4 b p i n) = ((A.S b p (j + 1) i n : ℝ) : EReal) := by
  have e32 : Step.b32 j s (ix4 b p i n) = Step.b9 j s (ix3 b p n) := by
    simp only [Step.b32, Step.b31, pointwise]; rfl
  have e36 : Step.b36 j s (ix4 b p i n) = Step.b30 j s (ix3 b p i) := by
    simp only [Step.b36, Step.b34, pointwise]; rfl
  have e37 : Step.b37 j s (ix4 b p i n) = Step.b29 j s (ix3 b p n) := by
    simp only [Step.b37, Step.b35, pointwise]; rfl
  have e42 : Step.b42 j s (ix4 b p i n) = Step.b19 j s (ix3 b p i) := by
    simp only [Step.b42, Step.b40, pointwise]; rfl
  have e43 : Step.b43 j s (ix4 b p i n) = Step.b14 j s (ix3 b p n) := by
    simp only [Step.b43, Step.b41, pointwise]; rfl
  have e : Step.b45 j s (ix4 b p i n) = s.main_v53_7 (ix4 b p i n) * Step.b32 j s (ix4 b p i n)
      + Step.b36 j s (ix4 b p i n) * Step.b37 j s (ix4 b p i n) + Step.b42 j s (ix4 b p i n) * Step.b43 j s (ix4 b p i n) := rfl
  rw [e, e32, e36, e37, e42, e43, H.hS, t9 H hj, t30 H hj, t29 H hj, t19 H hj, t14 H hj, ← EReal.coe_mul, ← EReal.coe_mul,
    ← EReal.coe_mul, ← EReal.coe_add, ← EReal.coe_add]
  rfl

theorem t46 (b : Fin 2) (p i : Fin 64) : Step.b46 j s (ix3 b p i) = ((A.y b p j i : ℝ) : EReal) := by
  refine (dot _ _ b p i).trans ?_
  unfold Spec.Args.y
  rw [Pack.coe_sum]
  refine Finset.sum_congr rfl fun m _ => ?_
  rw [t45 H hj, t4 H hj, EReal.coe_mul]

theorem t51 (τ : Fin 8448) (b : Fin 2) (p i : Fin 64) (h : τ.val < j + 1) : Step.b51 j s (ix4 τ b p i) = ((A.y b p τ i : ℝ) : EReal) := by
  have hz : ∀ a : Fin 4, ((![constantI S_ 32 (BitVec.ofNat 32 j), constantI S_ 32 0#32, constantI S_ 32 0#32, constantI S_ 32 0#32] : Fin 4 → IVec S_ 32)
      a (Shape.Idx.first h_S_)).toInt = ((![j, 0, 0, 0] : Fin 4 → ℕ) a : Int) := by
    intro a; fin_cases a
    · exact toInt_ofNat_of_lt (by omega)
    · rfl
    · rfl
    · rfl
  have hs : S8448x2x64x64.Slices ![j, 0, 0, 0] S1x2x64x64 := ⟨rfl, fun a => by
    fin_cases a
    · show j + 1 ≤ 8448; omega
    · exact Nat.le_refl _
    · exact Nat.le_refl _
    · exact Nat.le_refl _⟩
  have e : Step.b51 j s = updateSlice s.main_v53_8 (Step.b47 j s) ![j, 0, 0, 0] hs := by
    unfold Step.b51
    refine Host.dynamicUpdateSlice_eq_updateSlice (s := S8448x2x64x64) (u := S1x2x64x64) _ _ _ _ ![j, 0, 0, 0] (fun a => ?_) hs
    refine (congrArg (fun z : Int => (min (max z 0) _).toNat) (hz a)).trans ?_
    fin_cases a
    · show (min (max (j : Int) 0) ((8448 - 1 : ℕ) : Int)).toNat = j; omega
    · rfl
    · rfl
    · rfl
  rw [e]
  refine (updateSlice_apply (s := S8448x2x64x64) (u := S1x2x64x64) s.main_v53_8 (Step.b47 j s) ![j, 0, 0, 0] hs (ix4 τ b p i)).trans ?_
  by_cases hj' : τ.val = j
  · have hin : ∀ a : Fin 4, (![j, 0, 0, 0] : Fin 4 → ℕ) a ≤ ((ix4 τ b p i : S8448x2x64x64.Idx) a).val
        ∧ ((ix4 τ b p i : S8448x2x64x64.Idx) a).val < (![j, 0, 0, 0] : Fin 4 → ℕ) a + S1x2x64x64.size a := by
      intro a
      fin_cases a
      · show j ≤ τ.val ∧ τ.val < j + 1; omega
      · exact ⟨Nat.zero_le _, (by show b.val < 0 + 2; have := b.isLt; omega)⟩
      · exact ⟨Nat.zero_le _, (by show p.val < 0 + 64; have := p.isLt; omega)⟩
      · exact ⟨Nat.zero_le _, (by show i.val < 0 + 64; have := i.isLt; omega)⟩
    refine (dif_pos hin).trans ?_
    have e47 : ∀ z : S1x2x64x64.Idx, z = ix4 0 b p i → Step.b47 j s z = Step.b46 j s (ix3 b p i) := by
      rintro z rfl
      simp only [Step.b47, pointwise]; rfl
    refine (e47 _ ?_).trans ((t46 H hj b p i).trans (by rw [hj']))
    funext a; apply Fin.ext; revert a
    show ∀ a : Fin 4, ((ix4 τ b p i : S8448x2x64x64.Idx) a).val - (![j, 0, 0, 0] : Fin 4 → ℕ) a = ((ix4 0 b p i : S1x2x64x64.Idx) a).val
    intro a
    fin_cases a
    · show τ.val - j = 0; omega
    · rfl
    · rfl
    · rfl
  · refine (dif_neg (fun h => ?_)).trans (H.hy τ b p i (by omega))
    have h2 : j ≤ τ.val ∧ τ.val < j + 1 := h (0 : Fin 4)
    exact hj' (by omega)

theorem inv_step : Done A (j + 1) (Step.step j s) :=
  ⟨H.hr, H.hw, H.hk, H.hv, H.ha, H.hb, t45 H hj, t51 H hj⟩

end trip

end Cert.RefValue
-- ==== Proof.RefFinal.lean ====
/- The reference's result on real arguments: its loop begins at the recurrence's first state and its result is the
   recurrence's result, row by row. -/
module

public import proofs.«01_k».proof.Proof.RefLoop

@[expose] public section

noncomputable section

namespace Cert.RefValue

open Idealize.ShloMosaic Cert.ReferenceIdeal Cert.ReferenceIdeal.Gen Cert.Chunk Cert.Spec Cert.Pack

/-- The loop's buffers before the first trip. -/
def first (A : Spec.Args) : Step.State Ideal := Step.init (F := Ideal) A.r A.k A.v A.kk A.g A.lw A.ka

/-- The index of a token's head's channel in an argument array. -/
def pos (τ : Fin 8448) (b : Fin 2) (p n : Fin 64) : SA.Idx :=
  ix2 ⟨row b.val τ.val, row_lt b.isLt τ.isLt⟩ ⟨64 * p.val + n.val, by have := p.isLt; have := n.isLt; omega⟩

theorem heads_pos {x : SA.Idx → EReal} {f : ℝ} (τ : Fin 8448) (b : Fin 2) (p n : Fin 64) (h : x (pos τ b p n) = (f : EReal)) :
    heads x (ix4 τ b p n) = (f : EReal) := (heads_apply x τ b p n (pos τ b p n) rfl rfl).trans h

variable {A : Spec.Args} (H : A.Real)

theorem sq_pos {x : SA.Idx → EReal} (hx : ∀ i, ∃ z : ℝ, x i = (z : EReal)) (τ : Fin 8448) (b : Fin 2) (p n : Fin 64) :
    x (pos τ b p n) = ((sq x b p τ n : ℝ) : EReal) := sq_eq hx _ rfl rfl

theorem one_bcast (i : SA.Idx) : (Step.K_main_v6 (F := Ideal)) i = ((1 : ℝ) : EReal) := ofBits1
theorem one_bcast' (i : SA.Idx) : (Step.K_main_v10 (F := Ideal)) i = ((1 : ℝ) : EReal) := ofBits1

include H

theorem first_done : Done A 0 (first A) where
  hr τ b p n := heads_pos (x := A.r) τ b p n (sq_pos H.r τ b p n)
  hw τ b p n := heads_pos (x := Host.exp (F := Ideal) (φ := .f32) A.lw) τ b p n
    ((congrArg Ideal.exp (sq_pos H.lw τ b p n)).trans (Ideal.exp_coe _))
  hk τ b p n := heads_pos (x := Step.A_main_v12 (F := Ideal) A.r A.k A.v A.kk A.g A.lw A.ka) τ b p n (by
    have e : Step.A_main_v12 (F := Ideal) A.r A.k A.v A.kk A.g A.lw A.ka (pos τ b p n)
        = A.k (pos τ b p n) * (Step.K_main_v10 (F := Ideal) (pos τ b p n)
          + (A.g (pos τ b p n) - Step.K_main_v6 (F := Ideal) (pos τ b p n)) * Step.A_main_v8 (F := Ideal) A.r A.k A.v A.kk A.g A.lw A.ka (pos τ b p n)) := rfl
    have e8 : Step.A_main_v8 (F := Ideal) A.r A.k A.v A.kk A.g A.lw A.ka (pos τ b p n) = ((sk A.ka p n : ℝ) : EReal) :=
      sk_eq H.ka _ rfl
    rw [e, e8, one_bcast, one_bcast', sq_pos H.k, sq_pos H.g, ← EReal.coe_sub, ← EReal.coe_mul, ← EReal.coe_add, ← EReal.coe_mul])
  hv τ b p n := heads_pos (x := A.v) τ b p n (sq_pos H.v τ b p n)
  ha τ b p n := heads_pos (x := Host.negf (F := Ideal) (φ := .f32) A.kk) τ b p n
    ((congrArg (fun z : EReal => -z) (sq_pos H.kk τ b p n)).trans (EReal.coe_neg _).symm)
  hb τ b p n := heads_pos (x := mulf (F := Ideal) (φ := .f32) A.kk A.g) τ b p n (by
    refine (congrArg₂ (fun y z : EReal => y * z) (sq_pos H.kk τ b p n) (sq_pos H.g τ b p n)).trans ?_
    exact (EReal.coe_mul _ _).symm)
  hS b p i n := ofBits0
  hy τ b p i h := absurd h (Nat.not_lt_zero _)

theorem done (k : ℕ) (hk : k ≤ 8448) : Done A k (k.rec (first A) (fun i s => Step.step i s)) := by
  induction k with
  | zero => exact first_done H
  | succ k ih => exact inv_step (ih (by omega)) (by omega)

theorem result (n : ℕ) (hn : n = 8448) : Step.R_main_v60 (n.rec (first A) (fun i s => Step.step i s)) = A.out := by
  funext k
  have hr : (k 0).val < 16896 := (k 0).isLt
  have hc : (k 1).val < 4096 := (k 1).isLt
  have h0 : (k 0).val = row (batch (k 0).val) (tok (k 0).val) := (row_tok hr).symm
  have h1 : (k 1).val = 64 * ((k 1).val / 64) + (k 1).val % 64 := by omega
  refine (back _ k ⟨tok (k 0).val, tok_lt hr⟩ ⟨batch (k 0).val, batch_lt hr⟩ ⟨(k 1).val / 64, by omega⟩ ⟨(k 1).val % 64, by omega⟩ h0 h1).trans ?_
  refine ((done H n hn.le).hy _ _ _ _ (by subst hn; exact tok_lt hr)).trans ?_
  exact (out_eq A k (b := batch (k 0).val) (τ := tok (k 0).val) (p := (k 1).val / 64) (i := ⟨(k 1).val % 64, by omega⟩)
    (batch_lt hr) (tok_lt hr) h0 h1).symm

end Cert.RefValue
-- ==== Proof.Reference.lean ====
/- The reference's run: it ends at the recurrence's result, with its arguments kept and every semaphore at zero. -/
module

public import proofs.«01_k».proof.Proof.RefFinal

@[expose] public section

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ) (c : Dev nD)

/-- The reference's arguments. -/
def args : Spec.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6)⟩

theorem out_iter (H : (args m c).Real) (k : ℕ) (hk : k = 8448) : out_main_v60 (STEP^[k] (entryContents preI m c)) = (args m c).out :=
  (HostRun.out_found (F := Ideal) (STEP^[k] (entryContents preI m c))).trans
    ((congrArg Step.R_main_v60 (HostRun.found_iter m c k).2).trans (result H k hk))

theorem out_eq (H : (args m c).Real) : out_main_v60 (STEP^[8448] (entryContents preI m c)) = (args m c).out := out_iter m c H 8448 rfl

end Cert.RefValue
-- ==== Proof.Finite.lean ====
/- What the precondition says: every entry of every argument is a real number. -/
module

public import proofs.«01_k».proof.Defs
public import proofs.«01_k».proof.Proof.Spec
public import Idealize.ShloMosaic.Lib.Pipeline.Value

@[expose] public section

noncomputable section

namespace Cert.Finite

open Idealize.ShloMosaic Cert.Pre_finite

/-- The stated facts of the precondition's own operations. -/
theorem facts : Cert.Pre_finite.Facts where
  bcast_S_S16896x4096 := by decide
  bcast_S_S1x4096 := by decide
  bcast_S1x4096_S16896x4096_0_1 := by decide

theorem both {a b : BitVec 1} (h : IntOp.andi a b = 1#1) : a = 1#1 ∧ b = 1#1 := by
  revert a b; decide

/-- An extended real whose absolute value is below the largest is a real number. -/
theorem real_of_abs {x y : EReal} (hy : y = ⊤) (h : BitVec.ofBool (decide (max x (-x) < y)) = 1#1) : ∃ z : ℝ, x = (z : EReal) := by
  subst hy
  have h1 : max x (-x) < ⊤ := by
    by_contra hn
    rw [decide_eq_false hn] at h
    exact absurd h (by decide)
  induction x using EReal.rec with
  | bot => exact absurd h1 (by simp)
  | coe z => exact ⟨z, rfl⟩
  | top => exact absurd h1 (by simp)

theorem top32 : Ideal.ofBits .f32 0x7F800000#32 = ⊤ := by simp [Ideal.ofBits, Ideal.ieee]
theorem top16 : Ideal.ofBits .bf16 0x7F80#16 = ⊤ := by simp [Ideal.ofBits, Ideal.ieee]

attribute [local instance] facts

theorem real {A : Spec.Args} (h : Cert.Pre_finite.fn (F := Ideal) A.r A.k A.v A.kk A.g A.lw A.ka = fun _ => 1#1) : A.Real := by
  have at_ (i : Spec.SA.Idx) := both (congrFun h i)
  have a5 (i : Spec.SA.Idx) := both (at_ i).1
  have a4 (i : Spec.SA.Idx) := both (a5 i).1
  have a3 (i : Spec.SA.Idx) := both (a4 i).1
  have a2 (i : Spec.SA.Idx) := both (a3 i).1
  have a1 (i : Spec.SA.Idx) := both (a2 i).1
  exact {
    r := fun i => real_of_abs top16 (a1 i).1
    k := fun i => real_of_abs top16 (a1 i).2
    v := fun i => real_of_abs top16 (a2 i).2
    kk := fun i => real_of_abs top16 (a3 i).2
    g := fun i => real_of_abs top16 (a4 i).2
    lw := fun i => real_of_abs top32 (a5 i).2
    ka := fun i => by
      have e : i = ix2 0 (i 1) := by
        funext a; fin_cases a
        · exact Subsingleton.elim (α := Fin 1) _ _
        · rfl
      have hi : (i 1).val < 4096 := (i 1).isLt
      have h := (at_ (ix2 ⟨0, by norm_num⟩ ⟨(i 1).val, hi⟩)).2
      have hb : ∀ w : S1x4096.Idx → BitVec 1, broadcastInDim S16896x4096 ![0, 1] facts.bcast_S1x4096_S16896x4096_0_1 w
          (ix2 ⟨0, by norm_num⟩ ⟨(i 1).val, hi⟩) = w (ix2 0 ⟨(i 1).val, hi⟩) := fun w =>
        broadcastInDim_apply (s := S1x4096) (t := S16896x4096) ![0, 1] _ w _ (ix2 0 ⟨(i 1).val, hi⟩) (fun a => by fin_cases a <;> rfl)
      rw [e]
      exact real_of_abs top32 ((hb _).symm.trans h) }

end Cert.Finite
-- ==== Proof.ModOut.lean ====
/- The second product of the modulation. -/
module

public import proofs.«01_k».proof.Defs
public import proofs.«01_k».proof.Proof.Gen.Kernel14Ideal.Value
public import proofs.«01_k».proof.Proof.Gen.Kernel14.Frame
public import proofs.«01_k».proof.Proof.Gen.Reference14Ideal.Run
public import proofs.«01_k».proof.Proof.Gen.Reference14Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel14Ideal.Value

open Idealize.ShloMosaic Idealize.ShloMosaic.TcCoe Idealize.SL.Sem Cert.Kernel14Ideal Cert.Kernel14Ideal.Gen

variable (m : (ℓ : Loc nD τ sig) → Buf (Elt Ideal) ℓ) (c : Dev nD)

theorem ix_x : ∀ t : Fin cfg0.N, win0_0.index t = ![0, 0] :=
  (by decide +kernel : ∀ t : Fin grid0.N, win0_0.index t = ![0, 0])
theorem ix_w : ∀ t : Fin cfg0.N, win0_1.index t = ![0, 0, t.val] :=
  (by decide +kernel : ∀ t : Fin grid0.N, win0_1.index t = ![0, 0, t.val])
theorem ix_o : ∀ t : Fin cfg0.N, win0_2.index t = ![0, t.val] :=
  (by decide +kernel : ∀ t : Fin grid0.N, win0_2.index t = ![0, t.val])

/-- The kernel's array is the product that the reference states. -/
theorem final : (dats m 0 c).arrAt 2 cfg0.N = Cert.Reference14Ideal.Read.val_main_v2 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference14Ideal.Read.val_main_v2, Cert.Reference14Ideal.Read.val_main_v1, Cert.Reference14Ideal.Read.val_main_v0]
  blk_point [iblk, V, ix_x t, ix_w t, ix_o t]

theorem frame_p : Cert.quiescent_Kernel14 := fun m ρ _ => Cert.Kernel14.Gen.frame m ρ

theorem frame_pi : Cert.quiescent_Kernel14Ideal := fun m ρ _ => Cert.Kernel14Ideal.Gen.frame m ρ

theorem frame_ri : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- The kernel and the reference end at the same array. -/
theorem value : Cert.algebraic_Kernel14Ideal_Reference14Ideal := by
  intro m g m' g' _ hargs
  refine ⟨fun c => Cert.Reference14Ideal.Read.val_main_v2 (F := Ideal) (m ((c : Thread nD τ).loc main_arg0)) (m ((c : Thread nD τ).loc main_arg1)), ?_, ?_⟩
  · exact (θ_run Cert.Kernel14Ideal.defs _ _).mono (fun r h c => ⟨(h c).1.trans (final m c), (h c).2⟩)
      (run_blocks m g)
  · refine (θ_run Cert.Reference14Ideal.defs _ _).mono (fun r h c => ⟨(h c).1.trans ?_, (h c).2⟩)
      (Cert.Reference14Ideal.Value.run (F := Ideal) m' g')
    obtain ⟨h0, h1⟩ := hargs c
    rw [h0, h1]
    exact Cert.Reference14Ideal.Read.val_main_v2_eq _ _

end Cert.Kernel14Ideal.Value

end
-- ==== Proof.ModIn.lean ====
/- The first product of the modulation. -/
module

public import proofs.«01_k».proof.Defs
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Reference13Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel13Ideal.Value

open Idealize.ShloMosaic Idealize.ShloMosaic.TcCoe Idealize.SL.Sem Cert.Kernel13Ideal Cert.Kernel13Ideal.Gen

variable (m : (ℓ : Loc nD τ sig) → Buf (Elt Ideal) ℓ) (c : Dev nD)

theorem ix_x : ∀ t : Fin cfg0.N, win0_0.index t = ![0, 0] :=
  (by decide +kernel : ∀ t : Fin grid0.N, win0_0.index t = ![0, 0])
theorem ix_w : ∀ t : Fin cfg0.N, win0_1.index t = ![0, 0, 0] :=
  (by decide +kernel : ∀ t : Fin grid0.N, win0_1.index t = ![0, 0, 0])
theorem ix_o : ∀ t : Fin cfg0.N, win0_2.index t = ![0, 0] :=
  (by decide +kernel : ∀ t : Fin grid0.N, win0_2.index t = ![0, 0])

/-- The kernel's array is the product that the reference states. -/
theorem final : (dats m 0 c).arrAt 2 cfg0.N = Cert.Reference13Ideal.Read.val_main_v2 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference13Ideal.Read.val_main_v2, Cert.Reference13Ideal.Read.val_main_v1, Cert.Reference13Ideal.Read.val_main_v0]
  blk_point [iblk, V, ix_x t, ix_w t, ix_o t]

theorem frame_p : Cert.quiescent_Kernel13 := fun m ρ _ => Cert.Kernel13.Gen.frame m ρ

theorem frame_pi : Cert.quiescent_Kernel13Ideal := fun m ρ _ => Cert.Kernel13Ideal.Gen.frame m ρ

theorem frame_ri : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

/-- The kernel and the reference end at the same array. -/
theorem value : Cert.algebraic_Kernel13Ideal_Reference13Ideal := by
  intro m g m' g' _ hargs
  refine ⟨fun c => Cert.Reference13Ideal.Read.val_main_v2 (F := Ideal) (m ((c : Thread nD τ).loc main_arg0)) (m ((c : Thread nD τ).loc main_arg1)), ?_, ?_⟩
  · exact (θ_run Cert.Kernel13Ideal.defs _ _).mono (fun r h c => ⟨(h c).1.trans (final m c), (h c).2⟩)
      (run_blocks m g)
  · refine (θ_run Cert.Reference13Ideal.defs _ _).mono (fun r h c => ⟨(h c).1.trans ?_, (h c).2⟩)
      (Cert.Reference13Ideal.Value.run (F := Ideal) m' g')
    obtain ⟨h0, h1⟩ := hargs c
    rw [h0, h1]
    exact Cert.Reference13Ideal.Read.val_main_v2_eq _ _

end Cert.Kernel13Ideal.Value

end
-- ==== Proof.Next.lean ====
/- The residual between two layers. -/
module

public import proofs.«01_k».proof.Defs
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Reference12Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel12Ideal.Value

open Idealize.ShloMosaic Idealize.ShloMosaic.TcCoe Idealize.SL.Sem Cert.Kernel12Ideal Cert.Kernel12Ideal.Gen

variable (m : (ℓ : Loc nD τ sig) → Buf (Elt Ideal) ℓ) (c : Dev nD)

theorem ix_x : ∀ t : Fin cfg0.N, win0_0.index t = ![t.val, 0] :=
  (by decide +kernel : ∀ t : Fin grid0.N, win0_0.index t = ![t.val, 0])
theorem ix_f : ∀ t : Fin cfg0.N, win0_1.index t = ![t.val, 0] :=
  (by decide +kernel : ∀ t : Fin grid0.N, win0_1.index t = ![t.val, 0])
theorem ix_g : ∀ t : Fin cfg0.N, win0_2.index t = ![0, 0, 0] :=
  (by decide +kernel : ∀ t : Fin grid0.N, win0_2.index t = ![0, 0, 0])
theorem ix_m : ∀ t : Fin cfg0.N, win0_3.index t = ![t.val / 32, 0, 0] :=
  (by decide +kernel : ∀ t : Fin grid0.N, win0_3.index t = ![t.val / 32, 0, 0])
theorem ix_n : ∀ t : Fin cfg0.N, win0_4.index t = ![0, 0, 0] :=
  (by decide +kernel : ∀ t : Fin grid0.N, win0_4.index t = ![0, 0, 0])
theorem ix_k : ∀ t : Fin cfg0.N, win0_5.index t = ![t.val / 32, 0, 0] :=
  (by decide +kernel : ∀ t : Fin grid0.N, win0_5.index t = ![t.val / 32, 0, 0])
theorem ix_o : ∀ t : Fin cfg0.N, win0_6.index t = ![t.val, 0] :=
  (by decide +kernel : ∀ t : Fin grid0.N, win0_6.index t = ![t.val, 0])
theorem ix_h : ∀ t : Fin cfg0.N, win0_7.index t = ![t.val, 0] :=
  (by decide +kernel : ∀ t : Fin grid0.N, win0_7.index t = ![t.val, 0])

/-- The kernel's first array is the stream after the gated residual. -/
theorem stream : (dats m 0 c).arrAt 6 cfg0.N = Cert.Reference12Ideal.Read.val_main_v25 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]; frame_out
  pointwise [k0_pay1, k0_pay2, k0_pay3, Cert.Reference12Ideal.Read.val_main_v25, Cert.Reference12Ideal.Read.val_main_v24, Cert.Reference12Ideal.Read.val_main_v23, Cert.Reference12Ideal.Read.val_main_v22, Cert.Reference12Ideal.Read.val_main_v21, Cert.Reference12Ideal.Read.val_main_v20, Cert.Reference12Ideal.Read.val_main_v19, Cert.Reference12Ideal.Read.val_main_v18, Cert.Reference12Ideal.Read.val_main_v17, Cert.Reference12Ideal.Read.val_main_cst_1, Cert.Reference12Ideal.Read.val_main_v16, Cert.Reference12Ideal.Read.val_main_v15, Cert.Reference12Ideal.Read.val_main_cst_0, Cert.Reference12Ideal.Read.val_main_v14, Cert.Reference12Ideal.Read.val_main_v13, Cert.Reference12Ideal.Read.val_main_cst, Cert.Reference12Ideal.Read.val_main_v12, Cert.Reference12Ideal.Read.val_main_v11, Cert.Reference12Ideal.Read.val_main_v10, Cert.Reference12Ideal.Read.val_main_v9, Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_v2, Cert.Reference12Ideal.Read.val_main_v1, Cert.Reference12Ideal.Read.val_main_v0]
  blk_point [iblk, V, ix_x t, ix_f t, ix_g t, ix_m t, ix_n t, ix_k t, ix_o t, ix_h t]
  all_goals (blk_simp [ix_o t] at *; omega)

/-- The kernel's second array is that stream, normed and modulated for the next layer. -/
theorem normed : (dats m 0 c).arrAt 7 cfg0.N = Cert.Reference12Ideal.Read.val_main_v62 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]; frame_out
  pointwise [k0_pay1, k0_pay2, k0_pay3, Cert.Reference12Ideal.Read.val_main_v62, Cert.Reference12Ideal.Read.val_main_v61, Cert.Reference12Ideal.Read.val_main_v60, Cert.Reference12Ideal.Read.val_main_v59, Cert.Reference12Ideal.Read.val_main_v58, Cert.Reference12Ideal.Read.val_main_v57, Cert.Reference12Ideal.Read.val_main_v56, Cert.Reference12Ideal.Read.val_main_v55, Cert.Reference12Ideal.Read.val_main_v54, Cert.Reference12Ideal.Read.val_main_v53, Cert.Reference12Ideal.Read.val_main_v52, Cert.Reference12Ideal.Read.val_main_v51, Cert.Reference12Ideal.Read.val_main_v50, Cert.Reference12Ideal.Read.val_main_v49, Cert.Reference12Ideal.Read.val_main_cst_5, Cert.Reference12Ideal.Read.val_main_v48, Cert.Reference12Ideal.Read.val_main_v47, Cert.Reference12Ideal.Read.val_main_v46, Cert.Reference12Ideal.Read.val_main_v45, Cert.Reference12Ideal.Read.val_main_v44, Cert.Reference12Ideal.Read.val_main_v43, Cert.Reference12Ideal.Read.val_main_v42, Cert.Reference12Ideal.Read.val_main_v41, Cert.Reference12Ideal.Read.val_main_v40, Cert.Reference12Ideal.Read.val_main_v39, Cert.Reference12Ideal.Read.val_main_v38, Cert.Reference12Ideal.Read.val_main_v37, Cert.Reference12Ideal.Read.val_main_v36, Cert.Reference12Ideal.Read.val_main_v35, Cert.Reference12Ideal.Read.val_main_v34, Cert.Reference12Ideal.Read.val_main_v33, Cert.Reference12Ideal.Read.val_main_v32, Cert.Reference12Ideal.Read.val_main_cst_4, Cert.Reference12Ideal.Read.val_main_v31, Cert.Reference12Ideal.Read.val_main_v30, Cert.Reference12Ideal.Read.val_main_cst_3, Cert.Reference12Ideal.Read.val_main_v29, Cert.Reference12Ideal.Read.val_main_v28, Cert.Reference12Ideal.Read.val_main_cst_2, Cert.Reference12Ideal.Read.val_main_v27, Cert.Reference12Ideal.Read.val_main_v26, Cert.Reference12Ideal.Read.val_main_v25, Cert.Reference12Ideal.Read.val_main_v24, Cert.Reference12Ideal.Read.val_main_v23, Cert.Reference12Ideal.Read.val_main_v22, Cert.Reference12Ideal.Read.val_main_v21, Cert.Reference12Ideal.Read.val_main_v20, Cert.Reference12Ideal.Read.val_main_v19, Cert.Reference12Ideal.Read.val_main_v18, Cert.Reference12Ideal.Read.val_main_v17, Cert.Reference12Ideal.Read.val_main_cst_1, Cert.Reference12Ideal.Read.val_main_v16, Cert.Reference12Ideal.Read.val_main_v15, Cert.Reference12Ideal.Read.val_main_cst_0, Cert.Reference12Ideal.Read.val_main_v14, Cert.Reference12Ideal.Read.val_main_v13, Cert.Reference12Ideal.Read.val_main_cst, Cert.Reference12Ideal.Read.val_main_v12, Cert.Reference12Ideal.Read.val_main_v11, Cert.Reference12Ideal.Read.val_main_v10, Cert.Reference12Ideal.Read.val_main_v9, Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_v2, Cert.Reference12Ideal.Read.val_main_v1, Cert.Reference12Ideal.Read.val_main_v0]
  blk_point [iblk, V, ix_x t, ix_f t, ix_g t, ix_m t, ix_n t, ix_k t, ix_o t, ix_h t]
  all_goals (blk_simp [ix_h t] at *; omega)

theorem frame_p : Cert.quiescent_Kernel12 := fun m ρ _ => Cert.Kernel12.Gen.frame m ρ

theorem frame_pi : Cert.quiescent_Kernel12Ideal := fun m ρ _ => Cert.Kernel12Ideal.Gen.frame m ρ

theorem frame_ri : Cert.quiescent_Reference12Ideal := fun m ρ _ =>
  (θ_run Cert.Reference12Ideal.defs _ _).mono (fun r h => ⟨fun c => (h c).2.2,
      Idealize.ShloMosaic.sem_eq_zero_of_no_sems (by decide) r.2⟩)
    (Cert.Reference12Ideal.Value.run (F := Ideal) m ρ)

/-- The kernel and the reference end at the same arrays. -/
theorem value : Cert.algebraic_Kernel12Ideal_Reference12Ideal := by
  intro m g m' g' _ hargs
  refine ⟨fun c => Cert.Reference12Ideal.Read.val_main_v25 (F := Ideal) (m ((c : Thread nD τ).loc main_arg0)) (m ((c : Thread nD τ).loc main_arg1)) (m ((c : Thread nD τ).loc main_arg2)) (m ((c : Thread nD τ).loc main_arg3)),
    fun c => Cert.Reference12Ideal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · exact (θ_run Cert.Kernel12Ideal.defs _ _).mono
      (fun r h c => ⟨(h c).1.trans (stream m c), (h c).2.1.trans (normed m c), (h c).2.2⟩)
      (run_blocks m g)
  · refine (θ_run Cert.Reference12Ideal.defs _ _).mono (fun r h c => ⟨(h c).1.trans ?_, (h c).2.1.trans ?_, (h c).2.2⟩)
      (Cert.Reference12Ideal.Value.run (F := Ideal) m' g')
    · obtain ⟨h0, h1, h2, h3, h4, h5⟩ := hargs c
      rw [h0, h1, h2, h3]
      exact Cert.Reference12Ideal.Read.val_main_v25_eq _ _ _ _
    · obtain ⟨h0, h1, h2, h3, h4, h5⟩ := hargs c
      refine (Cert.Reference12Ideal.Read.val_main_v62_eq m' c).trans ?_
      rw [h0, h1, h2, h3, h4, h5]

end Cert.Kernel12Ideal.Value

end
-- ==== Proof.Gate.lean ====
/- The last product of the low-rank gate of an rwkv layer. -/
module

public import proofs.«01_k».proof.Defs
public import proofs.«01_k».proof.Proof.Gen.Kernel11Ideal.Value
public import proofs.«01_k».proof.Proof.Gen.Kernel11.Frame
public import proofs.«01_k».proof.Proof.Gen.Reference11Ideal.Run
public import proofs.«01_k».proof.Proof.Gen.Reference11Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel11Ideal.Value

open Idealize.ShloMosaic Idealize.ShloMosaic.TcCoe Idealize.SL.Sem Cert.Kernel11Ideal Cert.Kernel11Ideal.Gen

variable (m : (ℓ : Loc nD τ sig) → Buf (Elt Ideal) ℓ) (c : Dev nD)

theorem ix_x : ∀ t : Fin cfg0.N, win0_0.index t = ![t.val / 4, 0] :=
  (by decide +kernel : ∀ t : Fin grid0.N, win0_0.index t = ![t.val / 4, 0])
theorem ix_w : ∀ t : Fin cfg0.N, win0_1.index t = ![0, t.val % 4] :=
  (by decide +kernel : ∀ t : Fin grid0.N, win0_1.index t = ![0, t.val % 4])
theorem ix_o : ∀ t : Fin cfg0.N, win0_2.index t = ![t.val / 4, t.val % 4] :=
  (by decide +kernel : ∀ t : Fin grid0.N, win0_2.index t = ![t.val / 4, t.val % 4])

/-- A sum whose last 32 terms are zero. -/
theorem sum_cut (f : Fin 512 → EReal) (g : Fin 480 → EReal) (h : ∀ k, f (Fin.castAdd 32 k) = g k)
    (h0 : ∀ k : Fin 32, f (Fin.natAdd 480 k) = 0) : ∑ k, f k = ∑ k, g k := by
  refine (Fin.sum_univ_add (a := 480) (b := 32) f).trans ?_
  rw [Finset.sum_eq_zero fun k _ => h0 k, add_zero]
  exact Finset.sum_congr rfl fun k _ => h k

/-- The weight the kernel multiplies by: the given rows, and zeros below them. -/
theorem weight : V m c main_v3 = fun z => if h : (z 0).val < 480 then m ((c : Thread nD τ).loc main_arg1) (ix3 0 ⟨(z 0).val, h⟩ (z 1)) else (0 : EReal) := by
  have e : V m c main_v3 = truncf (F := Ideal) .bf16 (pad S512x4096 ![0, 0] ![32, 0] ![0, 0]
      (shapeCast S480x4096 (extractStridedSlice S1x480x4096 ![0, 0, 0] (m ((c : Thread nD τ).loc main_arg1)) slices_S2x480x4096_S1x480x4096_0_0_0) shapeCasts_S1x480x4096_S480x4096)
      (sitofp (F := Ideal) .f32 (constantI S_ 32 0#32)) pads_S480x4096_S512x4096_0320_000 h_S_) bitsLt_bf16_f32 := by
    show StableHlo.after [hostOps0, hostOps0_1, hostOps0_2].flatten (fun b => m (c, b)) (Proc.devRef .tc main_v3) = _
    simp only [hostOps0, hostOps0_1, hostOps0_2, List.flatten_cons, List.flatten_nil, List.append_nil, List.cons_append, List.nil_append]
    after_results <;> rfl
  rw [e]
  funext z
  pointwise
  split_ifs
  · rfl
  · show (((0#32 : BitVec 32).toInt : ℝ) : EReal) = 0
    simp

/-- The kernel's array is the product that the reference states. -/
theorem final : (dats m 0 c).arrAt 2 cfg0.N = Cert.Reference11Ideal.Read.val_main_v5 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference11Ideal.Read.val_main_v5, Cert.Reference11Ideal.Read.val_main_v4, Cert.Reference11Ideal.Read.val_main_v3, Cert.Reference11Ideal.Read.val_main_v2, Cert.Reference11Ideal.Read.val_main_v1, Cert.Reference11Ideal.Read.val_main_v0]
  refine sum_cut _ _ (fun k => ?_) (fun k => ?_)
  · refine congrArg₂ (fun p q : EReal => p * q) ?_ ?_
    · blk_ext [iblk, V_main_arg0, ix_x t, ix_o t]
      all_goals rfl
    · blk_simp [iblk]
      rw [weight]
      have hk := k.isLt
      refine (dif_pos (by blk_simp [ix_w t]; exact hk)).trans ?_
      blk_ext [ix_w t, ix_o t]
      all_goals rfl
  · blk_simp [iblk]
    rw [weight]
    refine (congrArg (fun q : EReal => _ * q) (dif_neg (by blk_simp [ix_w t]; exact Nat.not_lt.2 (Nat.le_add_right 480 k.val)))).trans (mul_zero _)

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The kernel and the reference end at the same array. -/
theorem value : Cert.algebraic_Kernel11Ideal_Reference11Ideal := by
  intro m g m' g' _ hargs
  refine ⟨fun c => Cert.Reference11Ideal.Read.val_main_v5 (F := Ideal) (m ((c : Thread nD τ).loc main_arg0)) (m ((c : Thread nD τ).loc main_arg1)), ?_, ?_⟩
  · exact (θ_run Cert.Kernel11Ideal.defs _ _).mono (fun r h c => ⟨(h c).1.trans (final m c), (h c).2⟩)
      (run_blocks m g)
  · refine (θ_run Cert.Reference11Ideal.defs _ _).mono (fun r h c => ⟨(h c).1.trans ?_, (h c).2⟩)
      (Cert.Reference11Ideal.Value.run (F := Ideal) m' g')
    obtain ⟨h0, h1⟩ := hargs c
    rw [h0, h1]
    exact Cert.Reference11Ideal.Read.val_main_v5_eq _ _

end Cert.Kernel11Ideal.Value

end
-- ==== Proof.Entry.lean ====
/- The entry of the residual stream, with the first norm and modulation. -/
module

public import proofs.«01_k».proof.Defs
public import proofs.«01_k».proof.Proof.Gen.Kernel10Ideal.Value
public import proofs.«01_k».proof.Proof.Gen.Kernel10.Frame
public import proofs.«01_k».proof.Proof.Gen.Reference10Ideal.Run
public import proofs.«01_k».proof.Proof.Gen.Reference10Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel10Ideal.Value

open Idealize.ShloMosaic Idealize.ShloMosaic.TcCoe Idealize.SL.Sem Cert.Kernel10Ideal Cert.Kernel10Ideal.Gen

variable (m : (ℓ : Loc nD τ sig) → Buf (Elt Ideal) ℓ) (c : Dev nD)

theorem ix_x : ∀ t : Fin cfg0.N, win0_0.index t = ![min t.val 63, 0] :=
  (by decide +kernel : ∀ t : Fin grid0.N, win0_0.index t = ![min t.val 63, 0])
theorem ix_c : ∀ t : Fin cfg0.N, win0_1.index t = ![t.val - 64, 0] :=
  (by decide +kernel : ∀ t : Fin grid0.N, win0_1.index t = ![t.val - 64, 0])
theorem ix_p : ∀ t : Fin cfg0.N, win0_2.index t = ![t.val % 32, 0] :=
  (by decide +kernel : ∀ t : Fin grid0.N, win0_2.index t = ![t.val % 32, 0])
theorem ix_g : ∀ t : Fin cfg0.N, win0_3.index t = ![0, 0, 0] :=
  (by decide +kernel : ∀ t : Fin grid0.N, win0_3.index t = ![0, 0, 0])
theorem ix_m : ∀ t : Fin cfg0.N, win0_4.index t = ![t.val / 32, 0, 0] :=
  (by decide +kernel : ∀ t : Fin grid0.N, win0_4.index t = ![t.val / 32, 0, 0])
theorem ix_o : ∀ t : Fin cfg0.N, win0_5.index t = ![t.val, 0] :=
  (by decide +kernel : ∀ t : Fin grid0.N, win0_5.index t = ![t.val, 0])
theorem ix_h : ∀ t : Fin cfg0.N, win0_6.index t = ![t.val, 0] :=
  (by decide +kernel : ∀ t : Fin grid0.N, win0_6.index t = ![t.val, 0])

/-- The kernel tells the tiles of the latents, its first 64, from the context's. -/
theorem tile : ∀ t : Fin grid0.N, Scalar.cmpi .slt (BitVec.ofNat 32 (grid0.coords t 0).val) 64#32 = if t.val < 64 then 1#1 else 0#1 := by
  decide +kernel

theorem pay_lat (t : Fin cfg0.grid.N) (h : t.val < 64) (x p s : Vec Ideal S256x4096 .f32) :
    k0_pay1 (cfg0.grid.coords t) x p s = addf x p := by
  show Scalar.select (Scalar.cmpi .slt (BitVec.ofNat 32 (grid0.coords t 0).val) 64#32) _ _ = _
  rw [tile t, if_pos h]; rfl

theorem pay_ctx (t : Fin cfg0.grid.N) (h : ¬ t.val < 64) (x p s : Vec Ideal S256x4096 .f32) :
    k0_pay1 (cfg0.grid.coords t) x p s = s := by
  show Scalar.select (Scalar.cmpi .slt (BitVec.ofNat 32 (grid0.coords t 0).val) 64#32) _ _ = _
  rw [tile t, if_neg h]; rfl

section Stated

open Cert.Reference10Ideal (S16384x4096 S512x4096 S8192x4096 S16896x4096)

variable (x : Vec Ideal S16384x4096 .f32) (k : Vec Ideal S512x4096 .f32) (p : Vec Ideal S8192x4096 .f32) (d : Fin 4096)

/-- The positions' table, once for each batch. -/
theorem twice_at (i : Fin 16384) (r : Fin 8192) (hr : r.val = i.val % 8192) :
    Cert.Reference10Ideal.Read.val_main_v0 (F := Ideal) p (ix2 i d) = p (ix2 r d) := by
  unfold Cert.Reference10Ideal.Read.val_main_v0
  have hi := i.isLt
  by_cases h : i.val < 8192
  · exact concatenate_pair_apply_left (t := S16384x4096) (s₁ := S8192x4096) (s₂ := S8192x4096) 0 p p _ (ix2 i d) rfl (ix2 r d)
      (fun a => by fin_cases a; (show r.val = i.val; omega); rfl)
  · refine concatenate_pair_apply_right (t := S16384x4096) (s₁ := S8192x4096) (s₂ := S8192x4096) 0 p p _ (ix2 i d) rfl rfl (ix2 r d) ?_ ?_
    · intro a ha; fin_cases a
      · exact absurd rfl ha
      · rfl
    · show r.val + 8192 = i.val; omega

/-- The stream at a latent token: the input at its position. -/
theorem enter_lat (j : Fin 16896) (i : Fin 16384) (hi : i.val = j.val) (r : Fin 8192) (hr : r.val = i.val % 8192) :
    Cert.Reference10Ideal.Read.val_main_v2 (F := Ideal) x k p (ix2 j d) = FloatOps.addf (F := Ideal) (φ := .f32) (x (ix2 i d)) (p (ix2 r d)) := by
  unfold Cert.Reference10Ideal.Read.val_main_v2
  refine (concatenate_pair_apply_left (t := S16896x4096) (s₁ := S16384x4096) (s₂ := S512x4096) 0 _ _ _ (ix2 j d) rfl (ix2 i d)
      (fun a => by fin_cases a; exact hi; rfl)).trans ?_
  rw [Cert.Reference10Ideal.Read.val_main_v1_apply, twice_at p d i r hr]

/-- The stream at a context token: the context. -/
theorem enter_ctx (j : Fin 16896) (i : Fin 512) (hi : i.val + 16384 = j.val) :
    Cert.Reference10Ideal.Read.val_main_v2 (F := Ideal) x k p (ix2 j d) = k (ix2 i d) := by
  unfold Cert.Reference10Ideal.Read.val_main_v2
  refine concatenate_pair_apply_right (t := S16896x4096) (s₁ := S16384x4096) (s₂ := S512x4096) 0 _ _ _ (ix2 j d) rfl rfl (ix2 i d) ?_ hi
  intro a ha; fin_cases a
  · exact absurd rfl ha
  · rfl

end Stated

/-- The token of tile `t`'s row `r`. -/
def token (t : Fin cfg0.N) (r : Fin 256) : Fin 16896 :=
  ⟨t.val * 256 + r.val, by have ht : t.val < 66 := t.isLt; omega⟩

/-- What the kernel takes as the stream on tile `t`. -/
theorem pay_stream (t : Fin cfg0.N) : k0_pay1 (F := Ideal) (cfg0.grid.coords t) (iblk m c 0 t) (iblk m c 2 t) (iblk m c 1 t)
    = fun z => Cert.Reference10Ideal.Read.val_main_v2 (F := Ideal) (m ((c : Thread nD τ).loc main_arg0)) (m ((c : Thread nD τ).loc main_arg1))
        (m ((c : Thread nD τ).loc main_arg2)) (ix2 (token t (z 0)) (z 1)) := by
  funext z
  have ht : t.val < 66 := t.isLt
  have hz : (z 0).val < 256 := (z 0).isLt
  by_cases h : t.val < 64
  · rw [pay_lat t h]
    refine Eq.trans ?_ (enter_lat _ _ _ (z 1) (token t (z 0)) ⟨t.val * 256 + (z 0).val, by omega⟩ rfl
      ⟨t.val % 32 * 256 + (z 0).val, by omega⟩ (by show t.val % 32 * 256 + (z 0).val = (t.val * 256 + (z 0).val) % 8192; omega)).symm
    refine congrArg₂ (FloatOps.addf (F := Ideal) (φ := .f32)) ?_ ?_
    · blk_ext [iblk, V, ix_x t]
    · blk_ext [iblk, V, ix_p t]
  · rw [pay_ctx t h]
    refine Eq.trans ?_ (enter_ctx _ _ _ (z 1) (token t (z 0)) ⟨(t.val - 64) * 256 + (z 0).val, by omega⟩
      (by show (t.val - 64) * 256 + (z 0).val + 16384 = t.val * 256 + (z 0).val; omega)).symm
    blk_ext [iblk, V, ix_c t]

/-- The kernel's first array is the stream's entry. -/
theorem stream : (dats m 0 c).arrAt 5 cfg0.N = Cert.Reference10Ideal.Read.val_main_v2 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  refine (congrFun (pay_stream m c t) y).trans ?_
  blk_ext [iblk, V, ix_o t, token]

/-- The second array is that stream, normed and modulated. -/
theorem normed : (dats m 0 c).arrAt 6 cfg0.N = Cert.Reference10Ideal.Read.val_main_v40 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  unfold k0_pay2
  rw [pay_stream m c t]
  pointwise [Cert.Reference10Ideal.Read.val_main_v40, Cert.Reference10Ideal.Read.val_main_v39, Cert.Reference10Ideal.Read.val_main_v38, Cert.Reference10Ideal.Read.val_main_v37, Cert.Reference10Ideal.Read.val_main_v36, Cert.Reference10Ideal.Read.val_main_v35, Cert.Reference10Ideal.Read.val_main_v34, Cert.Reference10Ideal.Read.val_main_v33, Cert.Reference10Ideal.Read.val_main_v32, Cert.Reference10Ideal.Read.val_main_v31, Cert.Reference10Ideal.Read.val_main_v30, Cert.Reference10Ideal.Read.val_main_v29, Cert.Reference10Ideal.Read.val_main_v28, Cert.Reference10Ideal.Read.val_main_v27, Cert.Reference10Ideal.Read.val_main_v26, Cert.Reference10Ideal.Read.val_main_cst_2, Cert.Reference10Ideal.Read.val_main_v25, Cert.Reference10Ideal.Read.val_main_v24, Cert.Reference10Ideal.Read.val_main_v23, Cert.Reference10Ideal.Read.val_main_v22, Cert.Reference10Ideal.Read.val_main_v21, Cert.Reference10Ideal.Read.val_main_v20, Cert.Reference10Ideal.Read.val_main_v19, Cert.Reference10Ideal.Read.val_main_v18, Cert.Reference10Ideal.Read.val_main_v17, Cert.Reference10Ideal.Read.val_main_v16, Cert.Reference10Ideal.Read.val_main_v15, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_cst_1, Cert.Reference10Ideal.Read.val_main_v8, Cert.Reference10Ideal.Read.val_main_v7, Cert.Reference10Ideal.Read.val_main_cst_0, Cert.Reference10Ideal.Read.val_main_v6, Cert.Reference10Ideal.Read.val_main_v5, Cert.Reference10Ideal.Read.val_main_cst, Cert.Reference10Ideal.Read.val_main_v4, Cert.Reference10Ideal.Read.val_main_v3]
  blk_point [iblk, V, ix_g t, ix_m t, ix_h t, token]
  all_goals (blk_simp [ix_h t] at *; omega)

theorem frame_p : Cert.quiescent_Kernel10 := fun m ρ _ => Cert.Kernel10.Gen.frame m ρ

theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono (fun r h => ⟨fun c => (h c).2.2,
      Idealize.ShloMosaic.sem_eq_zero_of_no_sems (by decide) r.2⟩)
    (Cert.Reference10Ideal.Value.run (F := Ideal) m ρ)

/-- The kernel and the reference end at the same arrays. -/
theorem value : Cert.algebraic_Kernel10Ideal_Reference10Ideal := by
  intro m g m' g' _ hargs
  refine ⟨fun c => Cert.Reference10Ideal.Read.val_main_v2 (F := Ideal) (m ((c : Thread nD τ).loc main_arg0)) (m ((c : Thread nD τ).loc main_arg1)) (m ((c : Thread nD τ).loc main_arg2)),
    fun c => Cert.Reference10Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run Cert.Kernel10Ideal.defs _ _).mono
      (fun r h c => ⟨(h c).1.trans (stream m c), (h c).2.1.trans (normed m c), (h c).2.2⟩)
      (run_blocks m g)
  · refine (θ_run Cert.Reference10Ideal.defs _ _).mono (fun r h c => ⟨(h c).1.trans ?_, (h c).2.1.trans ?_, (h c).2.2⟩)
      (Cert.Reference10Ideal.Value.run (F := Ideal) m' g')
    · obtain ⟨h0, h1, h2, h3, h4⟩ := hargs c
      rw [h0, h1, h2]
      exact Cert.Reference10Ideal.Read.val_main_v2_eq _ _ _
    · obtain ⟨h0, h1, h2, h3, h4⟩ := hargs c
      rw [h0, h1, h2, h3, h4]
      exact Cert.Reference10Ideal.Read.val_main_v40_eq _ _ _ _ _

end Cert.Kernel10Ideal.Value

end
-- ==== Proof.Between.lean ====
/- The residual between the two halves of a layer, with the norm and modulation that follow. -/
module

public import proofs.«01_k».proof.Defs
public import proofs.«01_k».proof.Proof.Gen.Kernel9Ideal.Value
public import proofs.«01_k».proof.Proof.Gen.Kernel9.Frame
public import proofs.«01_k».proof.Proof.Gen.Reference9Ideal.Run
public import proofs.«01_k».proof.Proof.Gen.Reference9Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel9Ideal.Value

open Idealize.ShloMosaic Idealize.ShloMosaic.TcCoe Idealize.SL.Sem Cert.Kernel9Ideal Cert.Kernel9Ideal.Gen

variable (m : (ℓ : Loc nD τ sig) → Buf (Elt Ideal) ℓ) (c : Dev nD)

theorem ix_x : ∀ t : Fin cfg0.N, win0_0.index t = ![t.val, 0] :=
  (by decide +kernel : ∀ t : Fin grid0.N, win0_0.index t = ![t.val, 0])
theorem ix_f : ∀ t : Fin cfg0.N, win0_1.index t = ![t.val, 0] :=
  (by decide +kernel : ∀ t : Fin grid0.N, win0_1.index t = ![t.val, 0])
theorem ix_g : ∀ t : Fin cfg0.N, win0_2.index t = ![0, 0, 0] :=
  (by decide +kernel : ∀ t : Fin grid0.N, win0_2.index t = ![0, 0, 0])
theorem ix_m : ∀ t : Fin cfg0.N, win0_3.index t = ![t.val / 32, 0, 0] :=
  (by decide +kernel : ∀ t : Fin grid0.N, win0_3.index t = ![t.val / 32, 0, 0])
theorem ix_n : ∀ t : Fin cfg0.N, win0_4.index t = ![0, 0, 0] :=
  (by decide +kernel : ∀ t : Fin grid0.N, win0_4.index t = ![0, 0, 0])
theorem ix_k : ∀ t : Fin cfg0.N, win0_5.index t = ![t.val / 32, 0, 0] :=
  (by decide +kernel : ∀ t : Fin grid0.N, win0_5.index t = ![t.val / 32, 0, 0])
theorem ix_o : ∀ t : Fin cfg0.N, win0_6.index t = ![t.val, 0] :=
  (by decide +kernel : ∀ t : Fin grid0.N, win0_6.index t = ![t.val, 0])
theorem ix_h : ∀ t : Fin cfg0.N, win0_7.index t = ![t.val, 0] :=
  (by decide +kernel : ∀ t : Fin grid0.N, win0_7.index t = ![t.val, 0])

/-- The kernel's first array is the stream after the gated residual. -/
theorem stream : (dats m 0 c).arrAt 6 cfg0.N = Cert.Reference9Ideal.Read.val_main_v25 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]; frame_out
  pointwise [k0_pay1, k0_pay2, k0_pay3, Cert.Reference9Ideal.Read.val_main_v25, Cert.Reference9Ideal.Read.val_main_v24, Cert.Reference9Ideal.Read.val_main_v23, Cert.Reference9Ideal.Read.val_main_v22, Cert.Reference9Ideal.Read.val_main_v21, Cert.Reference9Ideal.Read.val_main_v20, Cert.Reference9Ideal.Read.val_main_v19, Cert.Reference9Ideal.Read.val_main_v18, Cert.Reference9Ideal.Read.val_main_v17, Cert.Reference9Ideal.Read.val_main_cst_1, Cert.Reference9Ideal.Read.val_main_v16, Cert.Reference9Ideal.Read.val_main_v15, Cert.Reference9Ideal.Read.val_main_cst_0, Cert.Reference9Ideal.Read.val_main_v14, Cert.Reference9Ideal.Read.val_main_v13, Cert.Reference9Ideal.Read.val_main_cst, Cert.Reference9Ideal.Read.val_main_v12, Cert.Reference9Ideal.Read.val_main_v11, Cert.Reference9Ideal.Read.val_main_v10, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0]
  blk_point [iblk, V, ix_x t, ix_f t, ix_g t, ix_m t, ix_n t, ix_k t, ix_o t, ix_h t]
  all_goals (blk_simp [ix_o t] at *; omega)

/-- The kernel's second array is that stream, normed and modulated. -/
theorem normed : (dats m 0 c).arrAt 7 cfg0.N = Cert.Reference9Ideal.Read.val_main_v63 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]; frame_out
  pointwise [k0_pay1, k0_pay2, k0_pay3, Cert.Reference9Ideal.Read.val_main_v63, Cert.Reference9Ideal.Read.val_main_v62, Cert.Reference9Ideal.Read.val_main_v61, Cert.Reference9Ideal.Read.val_main_v60, Cert.Reference9Ideal.Read.val_main_v59, Cert.Reference9Ideal.Read.val_main_v58, Cert.Reference9Ideal.Read.val_main_v57, Cert.Reference9Ideal.Read.val_main_v56, Cert.Reference9Ideal.Read.val_main_v55, Cert.Reference9Ideal.Read.val_main_v54, Cert.Reference9Ideal.Read.val_main_v53, Cert.Reference9Ideal.Read.val_main_v52, Cert.Reference9Ideal.Read.val_main_v51, Cert.Reference9Ideal.Read.val_main_v50, Cert.Reference9Ideal.Read.val_main_v49, Cert.Reference9Ideal.Read.val_main_cst_5, Cert.Reference9Ideal.Read.val_main_v48, Cert.Reference9Ideal.Read.val_main_v47, Cert.Reference9Ideal.Read.val_main_v46, Cert.Reference9Ideal.Read.val_main_v45, Cert.Reference9Ideal.Read.val_main_v44, Cert.Reference9Ideal.Read.val_main_v43, Cert.Reference9Ideal.Read.val_main_v42, Cert.Reference9Ideal.Read.val_main_v41, Cert.Reference9Ideal.Read.val_main_v40, Cert.Reference9Ideal.Read.val_main_v39, Cert.Reference9Ideal.Read.val_main_v38, Cert.Reference9Ideal.Read.val_main_v37, Cert.Reference9Ideal.Read.val_main_v36, Cert.Reference9Ideal.Read.val_main_v35, Cert.Reference9Ideal.Read.val_main_v34, Cert.Reference9Ideal.Read.val_main_v33, Cert.Reference9Ideal.Read.val_main_v32, Cert.Reference9Ideal.Read.val_main_cst_4, Cert.Reference9Ideal.Read.val_main_v31, Cert.Reference9Ideal.Read.val_main_v30, Cert.Reference9Ideal.Read.val_main_cst_3, Cert.Reference9Ideal.Read.val_main_v29, Cert.Reference9Ideal.Read.val_main_v28, Cert.Reference9Ideal.Read.val_main_cst_2, Cert.Reference9Ideal.Read.val_main_v27, Cert.Reference9Ideal.Read.val_main_v26, Cert.Reference9Ideal.Read.val_main_v25, Cert.Reference9Ideal.Read.val_main_v24, Cert.Reference9Ideal.Read.val_main_v23, Cert.Reference9Ideal.Read.val_main_v22, Cert.Reference9Ideal.Read.val_main_v21, Cert.Reference9Ideal.Read.val_main_v20, Cert.Reference9Ideal.Read.val_main_v19, Cert.Reference9Ideal.Read.val_main_v18, Cert.Reference9Ideal.Read.val_main_v17, Cert.Reference9Ideal.Read.val_main_cst_1, Cert.Reference9Ideal.Read.val_main_v16, Cert.Reference9Ideal.Read.val_main_v15, Cert.Reference9Ideal.Read.val_main_cst_0, Cert.Reference9Ideal.Read.val_main_v14, Cert.Reference9Ideal.Read.val_main_v13, Cert.Reference9Ideal.Read.val_main_cst, Cert.Reference9Ideal.Read.val_main_v12, Cert.Reference9Ideal.Read.val_main_v11, Cert.Reference9Ideal.Read.val_main_v10, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0]
  blk_point [iblk, V, ix_x t, ix_f t, ix_g t, ix_m t, ix_n t, ix_k t, ix_o t, ix_h t]
  all_goals (blk_simp [ix_h t] at *; omega)

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

/-- The kernel and the reference end at the same arrays. -/
theorem value : Cert.algebraic_Kernel9Ideal_Reference9Ideal := by
  intro m g m' g' _ hargs
  refine ⟨fun c => Cert.Reference9Ideal.Read.val_main_v25 (F := Ideal) (m ((c : Thread nD τ).loc main_arg0)) (m ((c : Thread nD τ).loc main_arg1)) (m ((c : Thread nD τ).loc main_arg2)) (m ((c : Thread nD τ).loc main_arg3)),
    fun c => Cert.Reference9Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run Cert.Kernel9Ideal.defs _ _).mono
      (fun r h c => ⟨(h c).1.trans (stream m c), (h c).2.1.trans (normed m c), (h c).2.2⟩)
      (run_blocks m g)
  · refine (θ_run Cert.Reference9Ideal.defs _ _).mono (fun r h c => ⟨(h c).1.trans ?_, (h c).2.1.trans ?_, (h c).2.2⟩)
      (Cert.Reference9Ideal.Value.run (F := Ideal) m' g')
    · obtain ⟨h0, h1, h2, h3, h4⟩ := hargs c
      rw [h0, h1, h2, h3]
      exact Cert.Reference9Ideal.Read.val_main_v25_eq _ _ _ _
    · obtain ⟨h0, h1, h2, h3, h4⟩ := hargs c
      refine (Cert.Reference9Ideal.Read.val_main_v63_eq m' c).trans ?_
      rw [h0, h1, h2, h3, h4]

end Cert.Kernel9Ideal.Value

end
-- ==== Proof.Result.lean ====
/- The last residual of the model, whose array is the result. -/
module

public import proofs.«01_k».proof.Defs
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Reference8Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel8Ideal.Value

open Idealize.ShloMosaic Idealize.ShloMosaic.TcCoe Idealize.SL.Sem Cert.Kernel8Ideal Cert.Kernel8Ideal.Gen

variable (m : (ℓ : Loc nD τ sig) → Buf (Elt Ideal) ℓ) (c : Dev nD)

theorem ix_x : ∀ t : Fin cfg0.N, win0_0.index t = ![t.val, 0] :=
  (by decide +kernel : ∀ t : Fin grid0.N, win0_0.index t = ![t.val, 0])
theorem ix_f : ∀ t : Fin cfg0.N, win0_1.index t = ![t.val, 0] :=
  (by decide +kernel : ∀ t : Fin grid0.N, win0_1.index t = ![t.val, 0])
theorem ix_g : ∀ t : Fin cfg0.N, win0_2.index t = ![0, 0, 0] :=
  (by decide +kernel : ∀ t : Fin grid0.N, win0_2.index t = ![0, 0, 0])
theorem ix_m : ∀ t : Fin cfg0.N, win0_3.index t = ![t.val / 32, 0, 0] :=
  (by decide +kernel : ∀ t : Fin grid0.N, win0_3.index t = ![t.val / 32, 0, 0])
theorem ix_o : ∀ t : Fin cfg0.N, win0_4.index t = ![t.val, 0] :=
  (by decide +kernel : ∀ t : Fin grid0.N, win0_4.index t = ![t.val, 0])

/-- The kernel's array is the stream after the gated residual. -/
theorem final : (dats m 0 c).arrAt 4 cfg0.N = Cert.Reference8Ideal.Read.val_main_v26 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  pointwise [k0_pay1, Cert.Reference8Ideal.Read.val_main_v26, Cert.Reference8Ideal.Read.val_main_v25, Cert.Reference8Ideal.Read.val_main_v24, Cert.Reference8Ideal.Read.val_main_v23, Cert.Reference8Ideal.Read.val_main_v22, Cert.Reference8Ideal.Read.val_main_v21, Cert.Reference8Ideal.Read.val_main_v20, Cert.Reference8Ideal.Read.val_main_v19, Cert.Reference8Ideal.Read.val_main_v18, Cert.Reference8Ideal.Read.val_main_v17, Cert.Reference8Ideal.Read.val_main_cst_1, Cert.Reference8Ideal.Read.val_main_v16, Cert.Reference8Ideal.Read.val_main_v15, Cert.Reference8Ideal.Read.val_main_cst_0, Cert.Reference8Ideal.Read.val_main_v14, Cert.Reference8Ideal.Read.val_main_v13, Cert.Reference8Ideal.Read.val_main_cst, Cert.Reference8Ideal.Read.val_main_v12, Cert.Reference8Ideal.Read.val_main_v11, Cert.Reference8Ideal.Read.val_main_v10, Cert.Reference8Ideal.Read.val_main_v9, Cert.Reference8Ideal.Read.val_main_v8, Cert.Reference8Ideal.Read.val_main_v7, Cert.Reference8Ideal.Read.val_main_v6, Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0]
  blk_point [iblk, V, ix_x t, ix_f t, ix_g t, ix_m t, ix_o t]
  all_goals (blk_simp [ix_o t] at *; omega)

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The kernel and the reference end at the same array. -/
theorem value : Cert.algebraic_Kernel8Ideal_Reference8Ideal := by
  intro m g m' g' _ hargs
  refine ⟨fun c => Cert.Reference8Ideal.Read.val_main_v26 (F := Ideal) (m ((c : Thread nD τ).loc main_arg0)) (m ((c : Thread nD τ).loc main_arg1)) (m ((c : Thread nD τ).loc main_arg2)) (m ((c : Thread nD τ).loc main_arg3)), ?_, ?_⟩
  · exact (θ_run Cert.Kernel8Ideal.defs _ _).mono (fun r h c => ⟨(h c).1.trans (final m c), (h c).2⟩)
      (run_blocks m g)
  · refine (θ_run Cert.Reference8Ideal.defs _ _).mono (fun r h c => ⟨(h c).1.trans ?_, (h c).2⟩)
      (Cert.Reference8Ideal.Value.run (F := Ideal) m' g')
    obtain ⟨h0, h1, h2, h3⟩ := hargs c
    rw [h0, h1, h2, h3]
    exact Cert.Reference8Ideal.Read.val_main_v26_eq _ _ _ _

end Cert.Kernel8Ideal.Value

end
-- ==== Proof.MixOut.lean ====
/- The output projection of a Fourier mixer: the rows in two parts, each by its half of the weights. -/
module

public import proofs.«01_k».proof.Defs
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Reference7Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel7Ideal.Value

open Idealize.ShloMosaic Idealize.ShloMosaic.TcCoe Idealize.SL.Sem Cert.Kernel7Ideal Cert.Kernel7Ideal.Gen

variable (m : (ℓ : Loc nD τ sig) → Buf (Elt Ideal) ℓ) (c : Dev nD)

theorem ix_a : ∀ t : Fin cfg0.N, win0_0.index t = ![t.val / 4, 0] :=
  (by decide +kernel : ∀ t : Fin grid0.N, win0_0.index t = ![t.val / 4, 0])
theorem ix_b : ∀ t : Fin cfg0.N, win0_1.index t = ![t.val / 4, 0] :=
  (by decide +kernel : ∀ t : Fin grid0.N, win0_1.index t = ![t.val / 4, 0])
theorem ix_wa : ∀ t : Fin cfg0.N, win0_2.index t = ![0, 0, t.val % 4] :=
  (by decide +kernel : ∀ t : Fin grid0.N, win0_2.index t = ![0, 0, t.val % 4])
theorem ix_wb : ∀ t : Fin cfg0.N, win0_3.index t = ![0, 1, t.val % 4] :=
  (by decide +kernel : ∀ t : Fin grid0.N, win0_3.index t = ![0, 1, t.val % 4])
theorem ix_o : ∀ t : Fin cfg0.N, win0_4.index t = ![t.val / 4, t.val % 4] :=
  (by decide +kernel : ∀ t : Fin grid0.N, win0_4.index t = ![t.val / 4, t.val % 4])

/-- The kernel's array is the product that the reference states. -/
theorem final : (dats m 0 c).arrAt 4 cfg0.N = Cert.Reference7Ideal.Read.val_main_v5 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  pointwise [k0_pay1, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0]
  blk_point [iblk, V, ix_a t, ix_b t, ix_wa t, ix_wb t, ix_o t]

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The kernel and the reference end at the same array. -/
theorem value : Cert.algebraic_Kernel7Ideal_Reference7Ideal := by
  intro m g m' g' _ hargs
  refine ⟨fun c => Cert.Reference7Ideal.Read.val_main_v5 (F := Ideal) (m ((c : Thread nD τ).loc main_arg0)) (m ((c : Thread nD τ).loc main_arg1)) (m ((c : Thread nD τ).loc main_arg2)), ?_, ?_⟩
  · exact (θ_run Cert.Kernel7Ideal.defs _ _).mono (fun r h c => ⟨(h c).1.trans (final m c), (h c).2⟩)
      (run_blocks m g)
  · refine (θ_run Cert.Reference7Ideal.defs _ _).mono (fun r h c => ⟨(h c).1.trans ?_, (h c).2⟩)
      (Cert.Reference7Ideal.Value.run (F := Ideal) m' g')
    obtain ⟨h0, h1, h2⟩ := hargs c
    rw [h0, h1, h2]
    exact Cert.Reference7Ideal.Read.val_main_v5_eq _ _ _

end Cert.Kernel7Ideal.Value

end
-- ==== Proof.MixIn.lean ====
/- The input projection of a Fourier mixer. -/
module

public import proofs.«01_k».proof.Defs
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Reference6Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel6Ideal.Value

open Idealize.ShloMosaic Idealize.ShloMosaic.TcCoe Idealize.SL.Sem Cert.Kernel6Ideal Cert.Kernel6Ideal.Gen

variable (m : (ℓ : Loc nD τ sig) → Buf (Elt Ideal) ℓ) (c : Dev nD)

theorem ix_x : ∀ t : Fin cfg0.N, win0_0.index t = ![t.val / 6, 0] :=
  (by decide +kernel : ∀ t : Fin grid0.N, win0_0.index t = ![t.val / 6, 0])
theorem ix_w : ∀ t : Fin cfg0.N, win0_1.index t = ![0, 0, t.val % 6] :=
  (by decide +kernel : ∀ t : Fin grid0.N, win0_1.index t = ![0, 0, t.val % 6])
theorem ix_o : ∀ t : Fin cfg0.N, win0_2.index t = ![t.val / 6, t.val % 6] :=
  (by decide +kernel : ∀ t : Fin grid0.N, win0_2.index t = ![t.val / 6, t.val % 6])

/-- The kernel's array is the product that the reference states. -/
theorem final : (dats m 0 c).arrAt 2 cfg0.N = Cert.Reference6Ideal.Read.val_main_v4 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference6Ideal.Read.val_main_v4, Cert.Reference6Ideal.Read.val_main_v3, Cert.Reference6Ideal.Read.val_main_v2, Cert.Reference6Ideal.Read.val_main_v1, Cert.Reference6Ideal.Read.val_main_v0]
  blk_point [iblk, V, ix_x t, ix_w t, ix_o t]

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The kernel and the reference end at the same array. -/
theorem value : Cert.algebraic_Kernel6Ideal_Reference6Ideal := by
  intro m g m' g' _ hargs
  refine ⟨fun c => Cert.Reference6Ideal.Read.val_main_v4 (F := Ideal) (m ((c : Thread nD τ).loc main_arg0)) (m ((c : Thread nD τ).loc main_arg1)), ?_, ?_⟩
  · exact (θ_run Cert.Kernel6Ideal.defs _ _).mono (fun r h c => ⟨(h c).1.trans (final m c), (h c).2⟩)
      (run_blocks m g)
  · refine (θ_run Cert.Reference6Ideal.defs _ _).mono (fun r h c => ⟨(h c).1.trans ?_, (h c).2⟩)
      (Cert.Reference6Ideal.Value.run (F := Ideal) m' g')
    obtain ⟨h0, h1⟩ := hargs c
    rw [h0, h1]
    exact Cert.Reference6Ideal.Read.val_main_v4_eq _ _

end Cert.Kernel6Ideal.Value

end
-- ==== Proof.RwkvOut.lean ====
/- The output projection of an rwkv layer. -/
module

public import proofs.«01_k».proof.Defs
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference5Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel5Ideal.Value

open Idealize.ShloMosaic Idealize.ShloMosaic.TcCoe Idealize.SL.Sem Cert.Kernel5Ideal Cert.Kernel5Ideal.Gen

variable (m : (ℓ : Loc nD τ sig) → Buf (Elt Ideal) ℓ) (c : Dev nD)

theorem ix_x : ∀ t : Fin cfg0.N, win0_0.index t = ![t.val / 4, 0] :=
  (by decide +kernel : ∀ t : Fin grid0.N, win0_0.index t = ![t.val / 4, 0])
theorem ix_w : ∀ t : Fin cfg0.N, win0_1.index t = ![0, 0, t.val % 4] :=
  (by decide +kernel : ∀ t : Fin grid0.N, win0_1.index t = ![0, 0, t.val % 4])
theorem ix_o : ∀ t : Fin cfg0.N, win0_2.index t = ![t.val / 4, t.val % 4] :=
  (by decide +kernel : ∀ t : Fin grid0.N, win0_2.index t = ![t.val / 4, t.val % 4])

/-- The kernel's array is the product that the reference states. -/
theorem final : (dats m 0 c).arrAt 2 cfg0.N = Cert.Reference5Ideal.Read.val_main_v4 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference5Ideal.Read.val_main_v4, Cert.Reference5Ideal.Read.val_main_v3, Cert.Reference5Ideal.Read.val_main_v2, Cert.Reference5Ideal.Read.val_main_v1, Cert.Reference5Ideal.Read.val_main_v0]
  blk_point [iblk, V, ix_x t, ix_w t, ix_o t]

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The kernel and the reference end at the same array. -/
theorem value : Cert.algebraic_Kernel5Ideal_Reference5Ideal := by
  intro m g m' g' _ hargs
  refine ⟨fun c => Cert.Reference5Ideal.Read.val_main_v4 (F := Ideal) (m ((c : Thread nD τ).loc main_arg0)) (m ((c : Thread nD τ).loc main_arg1)), ?_, ?_⟩
  · exact (θ_run Cert.Kernel5Ideal.defs _ _).mono (fun r h c => ⟨(h c).1.trans (final m c), (h c).2⟩)
      (run_blocks m g)
  · refine (θ_run Cert.Reference5Ideal.defs _ _).mono (fun r h c => ⟨(h c).1.trans ?_, (h c).2⟩)
      (Cert.Reference5Ideal.Value.run (F := Ideal) m' g')
    obtain ⟨h0, h1⟩ := hargs c
    rw [h0, h1]
    exact Cert.Reference5Ideal.Read.val_main_v4_eq _ _

end Cert.Kernel5Ideal.Value

end
-- ==== Proof.RwkvIn.lean ====
/- A projection of an rwkv layer: the product of its rows by one member of a stack of weights. -/
module

public import proofs.«01_k».proof.Defs
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel4Ideal.Value

open Idealize.ShloMosaic Idealize.ShloMosaic.TcCoe Idealize.SL.Sem Cert.Kernel4Ideal Cert.Kernel4Ideal.Gen

variable (m : (ℓ : Loc nD τ sig) → Buf (Elt Ideal) ℓ) (c : Dev nD)

theorem ix_x : ∀ t : Fin cfg0.N, win0_0.index t = ![t.val / 4, 0] :=
  (by decide +kernel : ∀ t : Fin grid0.N, win0_0.index t = ![t.val / 4, 0])
theorem ix_w : ∀ t : Fin cfg0.N, win0_1.index t = ![0, 0, 0, t.val % 4] :=
  (by decide +kernel : ∀ t : Fin grid0.N, win0_1.index t = ![0, 0, 0, t.val % 4])
theorem ix_o : ∀ t : Fin cfg0.N, win0_2.index t = ![t.val / 4, t.val % 4] :=
  (by decide +kernel : ∀ t : Fin grid0.N, win0_2.index t = ![t.val / 4, t.val % 4])

/-- The kernel's array is the product that the reference states. -/
theorem final : (dats m 0 c).arrAt 2 cfg0.N = Cert.Reference4Ideal.Read.val_main_v4 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference4Ideal.Read.val_main_v4, Cert.Reference4Ideal.Read.val_main_v3, Cert.Reference4Ideal.Read.val_main_v2, Cert.Reference4Ideal.Read.val_main_v1, Cert.Reference4Ideal.Read.val_main_v0]
  blk_point [iblk, V, ix_x t, ix_w t, ix_o t]

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel and the reference end at the same array. -/
theorem value : Cert.algebraic_Kernel4Ideal_Reference4Ideal := by
  intro m g m' g' _ hargs
  refine ⟨fun c => Cert.Reference4Ideal.Read.val_main_v4 (F := Ideal) (m ((c : Thread nD τ).loc main_arg0)) (m ((c : Thread nD τ).loc main_arg1)), ?_, ?_⟩
  · exact (θ_run Cert.Kernel4Ideal.defs _ _).mono (fun r h c => ⟨(h c).1.trans (final m c), (h c).2⟩)
      (run_blocks m g)
  · refine (θ_run Cert.Reference4Ideal.defs _ _).mono (fun r h c => ⟨(h c).1.trans ?_, (h c).2⟩)
      (Cert.Reference4Ideal.Value.run (F := Ideal) m' g')
    obtain ⟨h0, h1⟩ := hargs c
    rw [h0, h1]
    exact Cert.Reference4Ideal.Read.val_main_v4_eq _ _

end Cert.Kernel4Ideal.Value

end
-- ==== Proof.FfnDown.lean ====
/- The last product of the channel mixer: the contracted axis in two halves, summed in scratch over two points. -/
module

public import proofs.«01_k».proof.Defs
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Reference3Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel3Ideal.Value

open Idealize.ShloMosaic Idealize.ShloMosaic.TcCoe Idealize.SL.Sem Cert.Kernel3Ideal Cert.Kernel3Ideal.Gen

variable (m : (ℓ : Loc nD τ sig) → Buf (Elt Ideal) ℓ) (c : Dev nD)

theorem ix_x : ∀ t : Fin cfg0.N, win0_0.index t = ![t.val / 8, t.val % 2] :=
  (by decide +kernel : ∀ t : Fin grid0.N, win0_0.index t = ![t.val / 8, t.val % 2])
theorem ix_w : ∀ t : Fin cfg0.N, win0_1.index t = ![0, t.val % 2, t.val / 2 % 4] :=
  (by decide +kernel : ∀ t : Fin grid0.N, win0_1.index t = ![0, t.val % 2, t.val / 2 % 4])
theorem ix_o : ∀ t : Fin cfg0.N, win0_2.index t = ![t.val / 8, t.val / 2 % 4] :=
  (by decide +kernel : ∀ t : Fin grid0.N, win0_2.index t = ![t.val / 8, t.val / 2 % 4])

/-- The product of a block of rows and a block of columns, at an index. -/
def part (x : Vec Ideal S768x5504 .bf16) (w : Vec Ideal S1x5504x1024 .bf16) (y : S768x1024.Idx) : EReal :=
  ∑ k : Fin 5504, x (ix2 (y 0) k) * w (ix3 0 k (y 1))

/-- What a half of the contracted axis adds at a point. -/
theorem pay2 (a : Vec Ideal S768x1024 .f32) (x : Vec Ideal S768x5504 .bf16) (w : Vec Ideal S1x5504x1024 .bf16) (y : S768x1024.Idx) :
    k0_pay2 a x w y = a y + part x w y := by
  pointwise [k0_pay2, part]

theorem pay3 (a : Vec Ideal S768x1024 .f32) (y : S768x1024.Idx) : k0_pay3 a y = a y := by
  pointwise [k0_pay3]

theorem pay1 (y : S768x1024.Idx) : k0_pay1 (F := Ideal) y = 0 := by
  pointwise [k0_pay1]

/-- What the first point of a block leaves in scratch. -/
theorem first (t : Fin cfg0.N) (ht : t.val % 2 = 0) (y : S768x1024.Idx) :
    (outsAt0 m c t.val t.isLt).2 y = part (iblk m c 0 t) (iblk m c 1 t) y := by
  rw [outsAt0_A m c t ht (by omega)]; frame_out
  rw [pay2, pay1, zero_add]

/-- What the last point of a block leaves: both halves. -/
theorem last (t s : Fin cfg0.N) (ht : t.val % 2 = 1) (hs : s.val = t.val - 1) (y : S768x1024.Idx) :
    (outsAt0 m c t.val t.isLt).1 y = part (iblk m c 0 s) (iblk m c 1 s) y + part (iblk m c 0 t) (iblk m c 1 t) y := by
  rw [outsAt0_B m c t (by omega) ht]; frame_out
  rw [pay3, pay2]
  refine congrArg (· + _) ?_
  obtain ⟨n, hn⟩ := s
  subst hs
  exact (congrFun (Memref.IsWhole.read_unread _ _) y).trans (first m c ⟨t.val - 1, hn⟩ (by show (t.val - 1) % 2 = 0; omega) y)

/-- A sum over the whole axis is the sum of its halves. -/
theorem halves (f : Fin 11008 → EReal) :
    ∑ k, f k = ∑ k : Fin 5504, f ⟨k.val, by omega⟩ + ∑ k : Fin 5504, f ⟨5504 + k.val, by omega⟩ :=
  Fin.sum_univ_add (a := 5504) (b := 5504) f

/-- The kernel's array is the product that the reference states. -/
theorem final : (dats m 0 c).arrAt 2 cfg0.N = Cert.Reference3Ideal.Read.val_main_v4 (F := Ideal)
    (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2, last m c t ⟨t.val - 1, lt_of_le_of_lt (Nat.sub_le _ _) t.isLt⟩ ht rfl]
  pointwise [part, Cert.Reference3Ideal.Read.val_main_v4, Cert.Reference3Ideal.Read.val_main_v3, Cert.Reference3Ideal.Read.val_main_v2, Cert.Reference3Ideal.Read.val_main_v1, Cert.Reference3Ideal.Read.val_main_v0]
  rw [halves]
  blk_point [iblk, V, ix_x t, ix_w t, ix_o t, ix_x ⟨t.val - 1, lt_of_le_of_lt (Nat.sub_le _ _) t.isLt⟩, ix_w ⟨t.val - 1, lt_of_le_of_lt (Nat.sub_le _ _) t.isLt⟩]

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel and the reference end at the same array. -/
theorem value : Cert.algebraic_Kernel3Ideal_Reference3Ideal := by
  intro m g m' g' _ hargs
  refine ⟨fun c => Cert.Reference3Ideal.Read.val_main_v4 (F := Ideal) (m ((c : Thread nD τ).loc main_arg0)) (m ((c : Thread nD τ).loc main_arg1)), ?_, ?_⟩
  · exact (θ_run Cert.Kernel3Ideal.defs _ _).mono (fun r h c => ⟨(h c).1.trans (final m c), (h c).2⟩)
      (run_blocks m g)
  · refine (θ_run Cert.Reference3Ideal.defs _ _).mono (fun r h c => ⟨(h c).1.trans ?_, (h c).2⟩)
      (Cert.Reference3Ideal.Value.run (F := Ideal) m' g')
    obtain ⟨h0, h1⟩ := hargs c
    rw [h0, h1]
    exact Cert.Reference3Ideal.Read.val_main_v4_eq _ _

end Cert.Kernel3Ideal.Value

end
-- ==== Proof.Swiglu.lean ====
/- The first products of the channel mixer, gated: at every index the sums over the whole contracted axis, through the gate. -/
module

public import proofs.«01_k».proof.Defs
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import Idealize.ShloMosaic.Lib.Pipeline.ValueKit.Geometry
public import Idealize.ShloMosaic.Lib.Pipeline.ValueKit.Point
public import Idealize.ShloMosaic.Adequacy
public import Idealize.ShloMosaic.Init

@[expose] public section

noncomputable section

namespace Cert.Kernel2Ideal.Value

open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem ix_h : ∀ t : Fin cfg0.N, win0_0.index t = ![t.val / 43, 0] :=
  (by decide +kernel : ∀ t : Fin grid0.N, win0_0.index t = ![t.val / 43, 0])
theorem ix_w1 : ∀ t : Fin cfg0.N, win0_1.index t = ![0, 0, t.val % 43] :=
  (by decide +kernel : ∀ t : Fin grid0.N, win0_1.index t = ![0, 0, t.val % 43])
theorem ix_w3 : ∀ t : Fin cfg0.N, win0_2.index t = ![0, 0, t.val % 43] :=
  (by decide +kernel : ∀ t : Fin grid0.N, win0_2.index t = ![0, 0, t.val % 43])
theorem ix_o : ∀ t : Fin cfg0.N, win0_3.index t = ![t.val / 43, t.val % 43] :=
  (by decide +kernel : ∀ t : Fin grid0.N, win0_3.index t = ![t.val / 43, t.val % 43])

/-- The gated product: the rows of `x` against the columns of the first members of the stacks `w1` and `w3`. -/
def gated (x : (⟨S16896x4096, .bf16⟩ : BufTy).Contents (Elt Ideal)) (w1 w3 : (⟨S4x4096x11008, .f32⟩ : BufTy).Contents (Elt Ideal)) :
    (⟨S16896x11008, .bf16⟩ : BufTy).Contents (Elt Ideal) := fun i =>
  (∑ k : Fin 4096, x (ix2 (i 0) k) * w1 (ix3 0 k (i 1))) * Ideal.logistic (∑ k : Fin 4096, x (ix2 (i 0) k) * w1 (ix3 0 k (i 1)))
    * ∑ k : Fin 4096, x (ix2 (i 0) k) * w3 (ix3 0 k (i 1))

/-- The kernel's array: every block of 1536 rows by 256 columns holds its sums over the whole contracted axis. -/
theorem final : (dats m 0 c).arrAt 3 cfg0.N = gated
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, gated]
  blk_point [iblk, V, ix_h t, ix_w1 t, ix_w3 t, ix_o t]

open Cert.Reference2Ideal.Read in
/-- The reference's array. -/
theorem reference (x : (⟨S16896x4096, .bf16⟩ : BufTy).Contents (Elt Ideal)) (w1 w3 : (⟨S4x4096x11008, .f32⟩ : BufTy).Contents (Elt Ideal)) :
    val_main_v9 (F := Ideal) x w1 w3 = gated x w1 w3 := by
  funext i
  pointwise [val_main_v9, val_main_v8, val_main_v4, val_main_call0_v5, val_main_call0_v4, val_main_call0_cst_0, val_main_call0_v3,
    val_main_call0_v2, val_main_call0_cst, val_main_call0_v1, val_main_call0_v0, val_main_v3, val_main_v7, val_main_v0, val_main_v2,
    val_main_v6, val_main_v1, val_main_v5, gated]
  rfl

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel and the reference end at the same array. -/
theorem value : Cert.algebraic_Kernel2Ideal_Reference2Ideal := by
  intro m g m' g' _ hargs
  refine ⟨fun c => gated (m ((c : Thread nD τ).loc main_arg0)) (m ((c : Thread nD τ).loc main_arg1)) (m ((c : Thread nD τ).loc main_arg2)), ?_, ?_⟩
  · exact (θ_run Cert.Kernel2Ideal.defs _ _).mono (fun r h c => ⟨(h c).1.trans (final m c), (h c).2⟩)
      (run_blocks m g)
  · refine (θ_run Cert.Reference2Ideal.defs _ _).mono (fun r h c => ⟨(h c).1.trans ?_, (h c).2⟩)
      (Cert.Reference2Ideal.Value.run (F := Ideal) m' g')
    obtain ⟨h0, h1, h2⟩ := hargs c
    rw [h0, h1, h2]
    exact (Cert.Reference2Ideal.Read.val_main_v9_eq _ _ _).trans (reference _ _ _)

end Cert.Kernel2Ideal.Value

end
-- ==== Proof.lean ====
/- The certificate. For the forward scan of one rwkv layer: both frames, the idealization, and that kernel and reference
   end at the same result from arguments whose entries are real numbers — the result of the recurrence, which
   `Proof/Spec.lean` states; the kernel's side is `Proof/KernelValue.lean`, the reference's `Proof/Reference.lean`. The
   other calls' claims are proved in the modules imported below, one call in each. -/
module

public import proofs.«01_k».proof.Defs
public import proofs.«01_k».proof.Proof.Gen.Kernel.Frame
public import proofs.«01_k».proof.Proof.KernelValue
public import proofs.«01_k».proof.Proof.Reference
public import proofs.«01_k».proof.Proof.Finite
public import proofs.«01_k».proof.Proof.ModOut
public import proofs.«01_k».proof.Proof.ModIn
public import proofs.«01_k».proof.Proof.Next
public import proofs.«01_k».proof.Proof.Gate
public import proofs.«01_k».proof.Proof.Entry
public import proofs.«01_k».proof.Proof.Between
public import proofs.«01_k».proof.Proof.Result
public import proofs.«01_k».proof.Proof.MixOut
public import proofs.«01_k».proof.Proof.MixIn
public import proofs.«01_k».proof.Proof.RwkvOut
public import proofs.«01_k».proof.Proof.RwkvIn
public import proofs.«01_k».proof.Proof.FfnDown
public import proofs.«01_k».proof.Proof.Swiglu
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel and the reference compute the recurrence. -/
theorem value : Cert.algebraic_KernelIdeal_ReferenceIdeal_pre_finite (hPre_finite := Cert.Finite.facts) := by
  intro m g m' g' hpre hargs
  have H : ∀ c, (Cert.KernelIdeal.Value.args m c).Real := fun c => Cert.Finite.real (hpre c)
  have e : ∀ c, Cert.RefValue.args m' c = Cert.KernelIdeal.Value.args m c := fun c => by
    obtain ⟨h0, h1, h2, h3, h4, h5, h6⟩ := hargs c
    unfold Cert.RefValue.args
    rw [h0, h1, h2, h3, h4, h5, h6]
    rfl
  refine ⟨fun c => (Cert.KernelIdeal.Value.args m c).out, ?_, ?_⟩
  · exact (θ_run Cert.KernelIdeal.defs _ _).mono (fun r h c => ⟨(h c).1.trans (Cert.KernelIdeal.Value.final (H c)), (h c).2⟩)
      (Cert.KernelIdeal.Value.run_blocks m g)
  · exact (θ_run Cert.ReferenceIdeal.defs _ _).mono (fun r h c => ⟨(h c).1.trans ((Cert.RefValue.out_eq m' c (by rw [e]; exact H c)).trans (by rw [e])), (h c).2⟩)
      (Cert.ReferenceIdeal.Value.run (F := Ideal) m' g')

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
    Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts,
    Cert.Finite.facts,
    frame_p, frame_pi, fun m g _ => frame_pi m g trivial, frame_ri, fun m g _ => frame_ri m g trivial,
    Kernel2Ideal.Value.frame_p, Kernel2Ideal.Value.frame_pi, Kernel2Ideal.Value.frame_ri,
    Kernel3Ideal.Value.frame_p, Kernel3Ideal.Value.frame_pi, Kernel3Ideal.Value.frame_ri,
    Kernel4Ideal.Value.frame_p, Kernel4Ideal.Value.frame_pi, Kernel4Ideal.Value.frame_ri,
    Kernel5Ideal.Value.frame_p, Kernel5Ideal.Value.frame_pi, Kernel5Ideal.Value.frame_ri,
    Kernel6Ideal.Value.frame_p, Kernel6Ideal.Value.frame_pi, Kernel6Ideal.Value.frame_ri,
    Kernel7Ideal.Value.frame_p, Kernel7Ideal.Value.frame_pi, Kernel7Ideal.Value.frame_ri,
    Kernel8Ideal.Value.frame_p, Kernel8Ideal.Value.frame_pi, Kernel8Ideal.Value.frame_ri,
    Kernel9Ideal.Value.frame_p, Kernel9Ideal.Value.frame_pi, Kernel9Ideal.Value.frame_ri,
    Kernel10Ideal.Value.frame_p, Kernel10Ideal.Value.frame_pi, Kernel10Ideal.Value.frame_ri,
    Kernel11Ideal.Value.frame_p, Kernel11Ideal.Value.frame_pi, Kernel11Ideal.Value.frame_ri,
    Kernel12Ideal.Value.frame_p, Kernel12Ideal.Value.frame_pi, Kernel12Ideal.Value.frame_ri,
    Kernel13Ideal.Value.frame_p, Kernel13Ideal.Value.frame_pi, Kernel13Ideal.Value.frame_ri,
    Kernel14Ideal.Value.frame_p, Kernel14Ideal.Value.frame_pi, Kernel14Ideal.Value.frame_ri,
    trivial, value,
    trivial, Kernel2Ideal.Value.value,
    trivial, Kernel3Ideal.Value.value,
    trivial, Kernel4Ideal.Value.value,
    trivial, Kernel5Ideal.Value.value,
    trivial, Kernel6Ideal.Value.value,
    trivial, Kernel7Ideal.Value.value,
    trivial, Kernel8Ideal.Value.value,
    trivial, Kernel9Ideal.Value.value,
    trivial, Kernel10Ideal.Value.value,
    trivial, Kernel11Ideal.Value.value,
    trivial, Kernel12Ideal.Value.value,
    trivial, Kernel13Ideal.Value.value,
    trivial, Kernel14Ideal.Value.value⟩

end Cert.Proof

end
